-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_scores_finite_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x512x4x64 : S_.BroadcastsInDim S2x512x4x64 (![] : Fin 0 → Fin S2x512x4x64.rank)
  reducesTo_S2x512x4x64_S_d0_1_2_3 : S2x512x4x64.ReducesTo [0, 1, 2, 3] S_

variable [Facts]

def fn {F : FTy → Type} [FloatOps F] (main_arg0 : FVec F S2x128x512 .f32) (main_arg1 : FVec F S512x256 .f32) (main_arg2 : FVec F S2x512x4x64 .f32) (main_arg3 : FVec F S2x512x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x512x4x64 .f32 := Host.absf main_arg2
  let main_cst_2 : FVec F S_ .f32 := constant S_ .f32 0x7F800000#32
  let main_v10 : FVec F S2x512x4x64 .f32 := broadcastInDim S2x512x4x64 ![] bcast_S_S2x512x4x64 main_cst_2
  let main_v11 : IVec S2x512x4x64 1 := cmpf .olt main_v9 main_v10
  let main_c_3 : IVec S_ 1 := constantI S_ 1 1#1
  let main_v12 : IVec S_ 1 := (fun x v => Host.reduce IntOp.andi x v reducesTo_S2x512x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S256x256 : Shape := ⟨2, ![256, 256]⟩
abbrev S2x4x64x128 : Shape := ⟨4, ![2, 4, 64, 128]⟩
abbrev S2x2x128x256 : Shape := ⟨4, ![2, 2, 128, 256]⟩
abbrev S2x2x4x2x128 : Shape := ⟨5, ![2, 2, 4, 2, 128]⟩
abbrev S3x2 : Shape := ⟨2, ![3, 2]⟩
abbrev S2x2 : Shape := ⟨2, ![2, 2]⟩
abbrev S_ : Shape := ⟨0, ![]⟩
abbrev S128x128 : Shape := ⟨2, ![128, 128]⟩
abbrev S128x64 : Shape := ⟨2, ![128, 64]⟩
abbrev S1x1x64x128 : Shape := ⟨4, ![1, 1, 64, 128]⟩
abbrev S64x128 : Shape := ⟨2, ![64, 128]⟩
abbrev S128 : Shape := ⟨1, ![128]⟩
abbrev S128x1 : Shape := ⟨2, ![128, 1]⟩
abbrev S1x1x128x64 : Shape := ⟨4, ![1, 1, 128, 64]⟩
abbrev S1x1x1x1x128 : Shape := ⟨5, ![1, 1, 1, 1, 128]⟩
abbrev S1x1 : Shape := ⟨2, ![1, 1]⟩
abbrev S1x2x128x256 : Shape := ⟨4, ![1, 2, 128, 256]⟩
abbrev S2x128x256 : Shape := ⟨3, ![2, 128, 256]⟩
abbrev S1x2x4x2x128 : Shape := ⟨5, ![1, 2, 4, 2, 128]⟩
abbrev S2x4x2x128 : Shape := ⟨4, ![2, 4, 2, 128]⟩
abbrev S1x2x4x1x128 : Shape := ⟨5, ![1, 2, 4, 1, 128]⟩
abbrev S2x4x128 : Shape := ⟨3, ![2, 4, 128]⟩
abbrev S2x1x128 : Shape := ⟨3, ![2, 1, 128]⟩
abbrev S2x128 : Shape := ⟨2, ![2, 128]⟩
abbrev S2x128x1 : Shape := ⟨3, ![2, 128, 1]⟩
abbrev S2x128x64 : Shape := ⟨3, ![2, 128, 64]⟩

abbrev nBuf : Space → Nat
  | .hbm => 12
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S256x512, .f32⟩
  | .hbm, ⟨6, _⟩ => ⟨S256x256, .f32⟩
  | .hbm, ⟨7, _⟩ => ⟨S2x4x64x128, .f32⟩
  | .hbm, ⟨8, _⟩ => ⟨S2x4x64x128, .f32⟩
  | .hbm, ⟨9, _⟩ => ⟨S256x256, .f32⟩
  | .hbm, ⟨10, _⟩ => ⟨S256x512, .f32⟩
  | .hbm, ⟨11, _⟩ => ⟨S2x128x512, .f32⟩
  | .local _ .vmem, ⟨0, _⟩ => ⟨S256x256, .f32⟩
  | .local _ .vmem, ⟨1, _⟩ => ⟨S2x4x64x128, .f32⟩
  | .local _ .vmem, ⟨2, _⟩ => ⟨S2x4x64x128, .f32⟩
  | .local _ .vmem, ⟨3, _⟩ => ⟨S256x256, .f32⟩
  | .local _ .vmem, ⟨4, _⟩ => ⟨S2x2x128x256, .bf16⟩
  | .local _ .vmem, ⟨5, _⟩ => ⟨S2x2x4x2x128, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => true
  | ⟨1, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 2 14 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_47 : BitVec 32 := 0#32
  let c0_i32_45 : BitVec 32 := 0#32
  let c1_i32_46 : BitVec 32 := 1#32
  let v104 : BitVec 32 := Scalar.muli c0_i32_45 c1_i32_46
  let v105 : BitVec 32 := Scalar.addi c0_i32_47 v104
  v105.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .ne v2 c2_i32
  let v8 : BitVec 32 := Scalar.extui v7
  let c0_i32_1 : BitVec 32 := 0#32
  let v9 : BitVec 1 := Scalar.cmpi .ne v8 c0_i32_1
  v9

def k0_dev2 : Nat :=
  let c0_i32_47 : BitVec 32 := 0#32
  let c2_i32_45 : BitVec 32 := 2#32
  let c1_i32_46 : BitVec 32 := 1#32
  let v104 : BitVec 32 := Scalar.muli c2_i32_45 c1_i32_46
  let v105 : BitVec 32 := Scalar.addi c0_i32_47 v104
  v105.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_2 : BitVec 32 := 0#32
  let v10 : BitVec 1 := Scalar.cmpi .eq v2 c0_i32_2
  let v11 : BitVec 32 := Scalar.extui v10
  let c0_i32_3 : BitVec 32 := 0#32
  let v12 : BitVec 1 := Scalar.cmpi .ne v11 c0_i32_3
  v12

def k0_dev3 : Nat :=
  let c0_i32_313 : BitVec 32 := 0#32
  let c1_i32_311 : BitVec 32 := 1#32
  let c1_i32_312 : BitVec 32 := 1#32
  let v415 : BitVec 32 := Scalar.muli c1_i32_311 c1_i32_312
  let v416 : BitVec 32 := Scalar.addi c0_i32_313 v415
  v416.toNat
def k0_dev4 : Nat :=
  let c0_i32_328 : BitVec 32 := 0#32
  let c1_i32_326 : BitVec 32 := 1#32
  let c1_i32_327 : BitVec 32 := 1#32
  let v425 : BitVec 32 := Scalar.muli c1_i32_326 c1_i32_327
  let v426 : BitVec 32 := Scalar.addi c0_i32_328 v425
  v426.toNat
def k0_dev5 : Nat :=
  let c0_i32_345 : BitVec 32 := 0#32
  let c2_i32_343 : BitVec 32 := 2#32
  let c1_i32_344 : BitVec 32 := 1#32
  let v435 : BitVec 32 := Scalar.muli c2_i32_343 c1_i32_344
  let v436 : BitVec 32 := Scalar.addi c0_i32_345 v435
  v436.toNat
def k0_dev6 : Nat :=
  let c0_i32_360 : BitVec 32 := 0#32
  let c2_i32_358 : BitVec 32 := 2#32
  let c1_i32_359 : BitVec 32 := 1#32
  let v445 : BitVec 32 := Scalar.muli c2_i32_358 c1_i32_359
  let v446 : BitVec 32 := Scalar.addi c0_i32_360 v445
  v446.toNat
def k0_dev7 : Nat :=
  let c0_i32_377 : BitVec 32 := 0#32
  let c3_i32_375 : BitVec 32 := 3#32
  let c1_i32_376 : BitVec 32 := 1#32
  let v455 : BitVec 32 := Scalar.muli c3_i32_375 c1_i32_376
  let v456 : BitVec 32 := Scalar.addi c0_i32_377 v455
  v456.toNat
def k0_dev8 : Nat :=
  let c0_i32_392 : BitVec 32 := 0#32
  let c3_i32_390 : BitVec 32 := 3#32
  let c1_i32_391 : BitVec 32 := 1#32
  let v465 : BitVec 32 := Scalar.muli c3_i32_390 c1_i32_391
  let v466 : BitVec 32 := Scalar.addi c0_i32_392 v465
  v466.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_4 : BitVec 32 := 2#32
  let v13 : BitVec 1 := Scalar.cmpi .eq v2 c2_i32_4
  let v14 : BitVec 32 := Scalar.extui v13
  let c0_i32_5 : BitVec 32 := 0#32
  let v15 : BitVec 1 := Scalar.cmpi .ne v14 c0_i32_5
  v15

def k0_dev9 : Nat :=
  let c0_i32_313 : BitVec 32 := 0#32
  let c3_i32_311 : BitVec 32 := 3#32
  let c1_i32_312 : BitVec 32 := 1#32
  let v415 : BitVec 32 := Scalar.muli c3_i32_311 c1_i32_312
  let v416 : BitVec 32 := Scalar.addi c0_i32_313 v415
  v416.toNat
def k0_dev10 : Nat :=
  let c0_i32_328 : BitVec 32 := 0#32
  let c3_i32_326 : BitVec 32 := 3#32
  let c1_i32_327 : BitVec 32 := 1#32
  let v425 : BitVec 32 := Scalar.muli c3_i32_326 c1_i32_327
  let v426 : BitVec 32 := Scalar.addi c0_i32_328 v425
  v426.toNat
def k0_dev11 : Nat :=
  let c0_i32_345 : BitVec 32 := 0#32
  let c0_i32_343 : BitVec 32 := 0#32
  let c1_i32_344 : BitVec 32 := 1#32
  let v435 : BitVec 32 := Scalar.muli c0_i32_343 c1_i32_344
  let v436 : BitVec 32 := Scalar.addi c0_i32_345 v435
  v436.toNat
def k0_dev12 : Nat :=
  let c0_i32_360 : BitVec 32 := 0#32
  let c0_i32_358 : BitVec 32 := 0#32
  let c1_i32_359 : BitVec 32 := 1#32
  let v445 : BitVec 32 := Scalar.muli c0_i32_358 c1_i32_359
  let v446 : BitVec 32 := Scalar.addi c0_i32_360 v445
  v446.toNat
def k0_dev13 : Nat :=
  let c0_i32_377 : BitVec 32 := 0#32
  let c1_i32_375 : BitVec 32 := 1#32
  let c1_i32_376 : BitVec 32 := 1#32
  let v455 : BitVec 32 := Scalar.muli c1_i32_375 c1_i32_376
  let v456 : BitVec 32 := Scalar.addi c0_i32_377 v455
  v456.toNat
def k0_dev14 : Nat :=
  let c0_i32_392 : BitVec 32 := 0#32
  let c1_i32_390 : BitVec 32 := 1#32
  let c1_i32_391 : BitVec 32 := 1#32
  let v465 : BitVec 32 := Scalar.muli c1_i32_390 c1_i32_391
  let v466 : BitVec 32 := Scalar.addi c0_i32_392 v465
  v466.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v93 : BitVec 1 := Scalar.cmpi .eq v2 c1_i32_38
  let c3_i32 : BitVec 32 := 3#32
  let v94 : BitVec 1 := Scalar.cmpi .eq v2 c3_i32
  let v95 : BitVec 1 := Scalar.ori v93 v94
  let v96 : BitVec 32 := Scalar.extui v95
  let c0_i32_39 : BitVec 32 := 0#32
  let v97 : BitVec 1 := Scalar.cmpi .ne v96 c0_i32_39
  v97

def k0_dev15 : Nat :=
  let c0_i32_47 : BitVec 32 := 0#32
  let c0_i32_45 : BitVec 32 := 0#32
  let c1_i32_46 : BitVec 32 := 1#32
  let v104 : BitVec 32 := Scalar.muli c0_i32_45 c1_i32_46
  let v105 : BitVec 32 := Scalar.addi c0_i32_47 v104
  v105.toNat
def k0_dev16 : Nat :=
  let c0_i32_51 : BitVec 32 := 0#32
  let c2_i32_49 : BitVec 32 := 2#32
  let c1_i32_50 : BitVec 32 := 1#32
  let v106 : BitVec 32 := Scalar.muli c2_i32_49 c1_i32_50
  let v107 : BitVec 32 := Scalar.addi c0_i32_51 v106
  v107.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x256, .f32⟩
  | 2 => ⟨S2x512x4x64, .f32⟩
  | 3 => ⟨S2x512x4x64, .f32⟩
  | 4 => ⟨S256x512, .f32⟩
  | 5 => ⟨S2x128x256, .f32⟩
  | 6 => ⟨S2x128x4x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S128x512, .i32⟩
  | 48 => ⟨S128x512, .i32⟩
  | 49 => ⟨S128x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x512, .i32⟩
  | 95 => ⟨S128x512, .i32⟩
  | 96 => ⟨S128x512, .i1⟩
  | 97 => ⟨S128x512, .i1⟩
  | 98 => ⟨S2x4x128x512, .f32⟩
  | 99 => ⟨S_, .f32⟩
  | 100 => ⟨S2x4x128x512, .f32⟩
  | 101 => ⟨S2x4x128x512, .f32⟩
  | 102 => ⟨S1x1x128x512, .i1⟩
  | 103 => ⟨S_, .f32⟩
  | 104 => ⟨S_, .f32⟩
  | 105 => ⟨S2x4x128x512, .i1⟩
  | 106 => ⟨S2x4x128x512, .f32⟩
  | 107 => ⟨S2x4x128x512, .f32⟩
  | 108 => ⟨S_, .f32⟩
  | 109 => ⟨S2x4x128, .f32⟩
  | 110 => ⟨S2x4x128x1, .f32⟩
  | 111 => ⟨S2x4x128x512, .f32⟩
  | 112 => ⟨S2x4x128x512, .f32⟩
  | 113 => ⟨S2x4x128x512, .f32⟩
  | 114 => ⟨S_, .i1⟩
  | 115 => ⟨S128, .i1⟩
  | 116 => ⟨S1x1x128x1, .i1⟩
  | 117 => ⟨S_, .f32⟩
  | 118 => ⟨S2x4x128, .f32⟩
  | 119 => ⟨S2x4x128x1, .f32⟩
  | 120 => ⟨S_, .f32⟩
  | 121 => ⟨S_, .f32⟩
  | 122 => ⟨S2x4x128x1, .i1⟩
  | 123 => ⟨S2x4x128x1, .f32⟩
  | 124 => ⟨S2x4x128x1, .f32⟩
  | 125 => ⟨S2x4x128x512, .f32⟩
  | 126 => ⟨S2x4x128x512, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x4x128x512, .i1⟩
  | 3 => ⟨S2x4x128x512, .f32⟩
  | 4 => ⟨S2x4x128x512, .f32⟩
  | 5 => ⟨S2x4x64x128, .f32⟩
  | 6 => ⟨S2x128x4x64, .f32⟩
  | 7 => ⟨S2x128x256, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KI.Contents.lean ====
/- What the two scratch arrays of the attention kernel hold once the partial results have gone round: the tiles devices 0 and 2
   compute from their own blocks of the keys and values, and the merged result every device makes of them. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.ValueIdxCore

@[expose] public section

noncomputable section

namespace Cert.KernelIdeal.Talk

open Idealize.ShloMosaic Idealize.ShloMosaic.TcCoe
open Idealize.ShloMosaic.ValueIdx
open Cert.KernelIdeal Cert.KernelIdeal.Gen

variable {F : FTy → Type} [FloatOps F] [Named F]

/-- What the call is entered with on each device: the projected queries and the device's transposed keys and values. -/
structure Inp (F : FTy → Type) where
  q : Dev nD → S256x256.Idx → Elt F .f32
  kt : Dev nD → S2x4x64x128.Idx → Elt F .f32
  vt : Dev nD → S2x4x64x128.Idx → Elt F .f32

/-- The device that computes slot `s` of the scratch arrays. -/
def own (s : Fin 2) : Dev nD := if s = 0 then (0 : Fin 4) else (2 : Fin 4)

theorem inb_q (b : Fin 2) (h : Fin 4) : ∀ a, (![b.val * 128, h.val * 64] : Fin 2 → ℕ) a + S128x64.size a ≤ S256x256.size a := by
  revert b h; decide
theorem inb_kv (b : Fin 2) (h : Fin 4) : ∀ a, (![b.val, h.val, 0, 0] : Fin 4 → ℕ) a + S1x1x64x128.size a ≤ S2x4x64x128.size a := by
  revert b h; decide

/-- The queries of batch `b`, head `h`. -/
def qTile (q : S256x256.Idx → Elt F .f32) (b : Fin 2) (h : Fin 4) : Vec F S128x64 .f32 :=
  fun i => q ((Rect.unit (s := S256x256) ![b.val * 128, h.val * 64] S128x64.size (inb_q b h)).emb i)
/-- The keys (or the values) of batch `b`, head `h`. -/
def kvTile (kv : S2x4x64x128.Idx → Elt F .f32) (b : Fin 2) (h : Fin 4) : Vec F S1x1x64x128 .f32 :=
  fun i => kv ((Rect.unit (s := S2x4x64x128) ![b.val, h.val, 0, 0] S1x1x64x128.size (inb_kv b h)).emb i)

/-- Which key a query row may see, on the device of slot `s`. -/
def maskOf (s : Fin 2) : IVec S128x128 1 :=
  if s = 0 then k0_pay6 k0_pay2 k0_pay3 k0_pay4 k0_pay5 0#32 else k0_pay63 k0_pay59 k0_pay60 k0_pay61 k0_pay62 0#32

variable (x : Inp F)

/-- The unnormalised output tile. -/
def oTile (s : Fin 2) (b : Fin 2) (h : Fin 4) : Vec F S1x1x128x64 .bf16 :=
  k0_pay10 (maskOf s) (qTile (x.q (own s)) b h) (kvTile (x.kt (own s)) b h) (kvTile (x.vt (own s)) b h)
/-- The row maxima (`t = 0`) and the row sums (`t = 1`). -/
def msTile (s : Fin 2) (b : Fin 2) (h : Fin 4) (t : Fin 2) : Vec F S1x1x1x1x128 .f32 :=
  if t = 0 then k0_pay11 (maskOf s) (qTile (x.q (own s)) b h) (kvTile (x.kt (own s)) b h)
  else k0_pay12 (maskOf s) (qTile (x.q (own s)) b h) (kvTile (x.kt (own s)) b h)

/-- All of the output scratch array. -/
def oAll : S2x2x128x256.Idx → Elt F .bf16 := fun i =>
  oTile x (i 0) (i 1) ⟨(i 3).val / 64, by have : (i 3).val < 256 := (i 3).isLt; omega⟩
    (ix4 (0 : Fin 1) (0 : Fin 1) (i 2 : Fin 128) (⟨(i 3).val % 64, Nat.mod_lt _ (by decide)⟩ : Fin 64))
/-- All of the maxima-and-sums scratch array. -/
def mAll : S2x2x4x2x128.Idx → Elt F .f32 := fun i =>
  msTile x (i 0) (i 1) (i 2) (i 3) (ix5 (0 : Fin 1) (0 : Fin 1) (0 : Fin 1) (0 : Fin 1) (i 4 : Fin 128))

end Cert.KernelIdeal.Talk

end
-- ==== Proof.KI.Talk.lean ====
/- How the four devices talk: which semaphore is waited by whom, who pays it, how much, and what each payment hands over.

   Slot 0 of the scratch arrays is computed on device 0, slot 1 on device 2. A device first tells the owner of a slot that its own copy of
   that slot may be written (barrier semaphore, one unit from each of the other three devices); the owner waits for the three units, computes,
   and copies the slot to the three of them, each copy crediting the receiver's receive semaphore of that slot and one of the owner's own send
   semaphores. Devices 1 and 3 last tell the two owners that they have finished. Every semaphore is used for one round. -/
module

public import proofs.«01_k».proof.Proof.KI.Contents
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The ghost algebra: the staging cells' copy, and this protocol's, whose duties are named by the device that pays them. -/
abbrev UU : Type := UR sig nD τ × Rounds.URounds (GSem nD τ sig) (Dev nD)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Dev nD)) (MT nD τ sig Unit (Elt F) ℕ UU ℕ) := embR

/-! ## The semaphores -/

/-- The protocol's semaphores on one device. -/
inductive Kind
  | bar | sendO (j : Fin 3) | sendM (j : Fin 3) | recvO (s : Fin 2) | recvM (s : Fin 2) | done
  deriving DecidableEq

/-- All of them, listed. -/
def kinds : List Kind :=
  [.bar, .sendO 0, .sendM 0, .sendO 1, .sendM 1, .sendO 2, .sendM 2, .recvO 0, .recvM 0, .recvO 1, .recvM 1, .done]

theorem mem_kinds (k : Kind) : k ∈ kinds := by
  cases k with
  | bar => decide
  | sendO j => revert j; decide
  | sendM j => revert j; decide
  | recvO s => revert s; decide
  | recvM s => revert s; decide
  | done => decide

instance : Fintype Kind := ⟨kinds.toFinset, fun k => List.mem_toFinset.mpr (mem_kinds k)⟩

abbrev sendArr (j : Fin 3) (t : Fin 2) : DmaSem sig := ⟨4 + 2 * j.val + t.val, by have := j.isLt; have := t.isLt; show _ < 14; omega⟩
abbrev recvArr (s : Fin 2) (t : Fin 2) : DmaSem sig := ⟨10 + 2 * s.val + t.val, by have := s.isLt; have := t.isLt; show _ < 14; omega⟩
abbrev doneS : Sem sig := ⟨0, by decide⟩

/-- Where each lies. -/
abbrev loc : Kind → SemLoc sig
  | .bar => .reg barrier0
  | .sendO j => .dma (sendArr j 0)
  | .sendM j => .dma (sendArr j 1)
  | .recvO s => .dma (recvArr s 0)
  | .recvM s => .dma (recvArr s 1)
  | .done => .reg doneS

/-- Which of them a semaphore is, if any. -/
def kindOf (l : SemLoc sig) : Option Kind := kinds.find? fun k => loc k = l

theorem kindOf_loc (k : Kind) : kindOf (loc k) = some k := by revert k; decide
theorem loc_inj : Function.Injective loc := fun a b h => Option.some.inj ((kindOf_loc a).symm.trans ((congrArg kindOf h).trans (kindOf_loc b)))

abbrev cell (c : Dev nD) (k : Kind) : GSem nD τ sig := ((c : Thread nD τ), loc k)

theorem cell_inj {c c' : Dev nD} {k k' : Kind} (h : cell c k = cell c' k') : c = c' ∧ k = k' :=
  ⟨congrArg (fun g : GSem nD τ sig => g.1.1) h, loc_inj (congrArg Prod.snd h)⟩

/-! ## The slots -/

abbrev oM : Memref sig .tc .vmem S2x2x128x256 .bf16 := Memref.whole cc0_scratch0
abbrev mM : Memref sig .tc .vmem S2x2x4x2x128 .f32 := Memref.whole cc0_scratch1

theorem inb_o (s : Fin 2) : ∀ a, (![s.val, 0, 0, 0] : Fin 4 → ℕ) a + S1x2x128x256.size a ≤ S2x2x128x256.size a := by revert s; decide
theorem inb_m (s : Fin 2) : ∀ a, (![s.val, 0, 0, 0, 0] : Fin 5 → ℕ) a + S1x2x4x2x128.size a ≤ S2x2x4x2x128.size a := by revert s; decide

abbrev oRect (s : Fin 2) : Rect S2x2x128x256 := Rect.unit (s := S2x2x128x256) ![s.val, 0, 0, 0] S1x2x128x256.size (inb_o s)
abbrev mRect (s : Fin 2) : Rect S2x2x4x2x128 := Rect.unit (s := S2x2x4x2x128) ![s.val, 0, 0, 0, 0] S1x2x4x2x128.size (inb_m s)

/-- Slot `s` of the output scratch array. -/
abbrev oSlot (s : Fin 2) : Memref sig .tc .vmem S2x128x256 .bf16 :=
  (oM.slice (oRect s) (fun _ => rfl)).squeeze S2x128x256 squeezes_S1x2x128x256_S2x128x256
/-- Slot `s` of the maxima-and-sums scratch array. -/
abbrev mSlot (s : Fin 2) : Memref sig .tc .vmem S2x4x2x128 .f32 :=
  (mM.slice (mRect s) (fun _ => rfl)).squeeze S2x4x2x128 squeezes_S1x2x4x2x128_S2x4x2x128

/-- Share `q` of slot `s` of device `d`'s output scratch array, at contents `f`. -/
abbrev oPts (d : Dev nD) (s : Fin 2) (q : PosShare TreeShare) (f : S2x2x128x256.Idx → Elt F .bf16) : sProp 𝕄 :=
  (oSlot s).view.loc (d : Thread nD τ) ↦[(oSlot s).view.set]{q} f
/-- Share `q` of slot `s` of device `d`'s maxima-and-sums scratch array, at contents `f`. -/
abbrev mPts (d : Dev nD) (s : Fin 2) (q : PosShare TreeShare) (f : S2x2x4x2x128.Idx → Elt F .f32) : sProp 𝕄 :=
  (mSlot s).view.loc (d : Thread nD τ) ↦[(mSlot s).view.set]{q} f

abbrev No : ℕ := (oSlot 0).view.dmaCredit
abbrev Nm : ℕ := (mSlot 0).view.dmaCredit
theorem No_pos : 0 < No := View.dmaCredit_pos _ (by decide)
theorem Nm_pos : 0 < Nm := View.dmaCredit_pos _ (by decide)
theorem No_slot (s : Fin 2) : (oSlot s).view.dmaCredit = No := by fin_cases s <;> rfl
theorem Nm_slot (s : Fin 2) : (mSlot s).view.dmaCredit = Nm := by fin_cases s <;> rfl

/-- The slot an owner computes (of no meaning on devices 1 and 3). -/
def slotOf (c : Dev nD) : Fin 2 := if c.val = 0 then 0 else 1

/-- The part of a slot lent to the `j`-th copy; the part the owner keeps. -/
def lend : Fin 3 → PosShare TreeShare
  | 0 => (fullShare.left).right
  | 1 => (fullShare.right).left
  | 2 => (fullShare.right).right
def keep : PosShare TreeShare := (fullShare.left).left

/-! ## The schedule -/

variable (x : Inp F)

/-- Who pays each semaphore in its one round. -/
def payers (c : Dev nD) : Kind → Finset (Dev nD)
  | .bar => if c.val % 2 = 0 then Finset.univ.erase c else ∅
  | .sendO _ => if c.val % 2 = 0 then {c} else ∅
  | .sendM _ => if c.val % 2 = 0 then {c} else ∅
  | .recvO s => if c = own s then ∅ else {own s}
  | .recvM s => if c = own s then ∅ else {own s}
  | .done => if c.val % 2 = 0 then {(1 : Fin 4), (3 : Fin 4)} else ∅

/-- How many units each pays. -/
def amt : Kind → ℕ
  | .bar => 1
  | .sendO _ => No
  | .sendM _ => Nm
  | .recvO _ => No
  | .recvM _ => Nm
  | .done => 1

theorem amt_pos (k : Kind) : 0 < amt k := by
  cases k
  · exact Nat.one_pos
  · exact No_pos
  · exact Nm_pos
  · exact No_pos
  · exact Nm_pos
  · exact Nat.one_pos

/-- What the payment by device `d` hands to device `c`. -/
def pay (c : Dev nD) (d : Dev nD) : Kind → sProp 𝕄
  | .bar => iprop((∃ f, oPts d (slotOf c) fullShare f) ∗ (∃ f, mPts d (slotOf c) fullShare f)
      ∗ reached ER (cell d (.recvO (slotOf c))) 0 ∗ reached ER (cell d (.recvM (slotOf c))) 0)
  | .sendO j => oPts c (slotOf c) (lend j) (oAll x)
  | .sendM j => mPts c (slotOf c) (lend j) (mAll x)
  | .recvO s => iprop(oPts c s fullShare (oAll x) ∗ reached ER (cell (own s) .done) 0)
  | .recvM s => mPts c s fullShare (mAll x)
  | .done => iprop(emp)

/-- The protocol: one round on each semaphore. -/
def talk : Rounds.Schedule (GSem nD τ sig) (Dev nD) 𝕄 where
  duties g r := if r = 0 ∧ g.1.2 = .tc then (match kindOf g.2 with | some k => payers g.1.1 k | none => ∅) else ∅
  unitless _ := False
  amount g _ _ := match kindOf g.2 with | some k => amt k | none => 1
  payload g _ d := match kindOf g.2 with | some k => pay x g.1.1 d k | none => iprop(emp)
  amount_pos g _ _ _ := by
    split
    · exact amt_pos _
    · exact Nat.one_pos

theorem talk_duties (c : Dev nD) (k : Kind) : (talk x).duties (cell c k) 0 = payers c k := by
  dsimp only [talk]; rw [if_pos ⟨rfl, rfl⟩, kindOf_loc]
theorem talk_later (g : GSem nD τ sig) : ∀ r, 1 ≤ r → (talk x).duties g r = ∅ := fun r hr => by
  dsimp only [talk]; rw [if_neg (fun h => by omega)]
theorem talk_unused (c : Dev nD) (k : Kind) (h : payers c k = ∅) : ∀ r, 0 ≤ r → (talk x).duties (cell c k) r = ∅ := fun r _ => by
  cases r with
  | zero => rw [talk_duties, h]
  | succ r => exact talk_later x _ _ (Nat.succ_pos r)
theorem talk_amount (c : Dev nD) (k : Kind) (r : ℕ) (d : Dev nD) : (talk x).amount (cell c k) r d = amt k := by
  dsimp only [talk]; rw [kindOf_loc]
theorem talk_payload (c : Dev nD) (k : Kind) (r : ℕ) (d : Dev nD) : (talk x).payload (cell c k) r d = pay x c d k := by
  dsimp only [talk]; rw [kindOf_loc]
theorem talk_expect (c : Dev nD) (k : Kind) : (talk x).expect (cell c k) 0 = (payers c k).card * amt k := by
  unfold Schedule.expect Schedule.amountOf
  rw [talk_duties, Finset.sum_congr rfl fun d _ => talk_amount x c k 0 d, Finset.sum_const, smul_eq_mul]
theorem talk_rest (c : Dev nD) (k : Kind) :
    bigSep ((talk x).duties (cell c k) 0 \ ∅) (fun d => (talk x).payload (cell c k) 0 d) = bigSep (payers c k) fun d => pay x c d k := by
  rw [Finset.sdiff_empty, talk_duties]; exact bigSep_congr fun d _ => talk_payload x c k 0 d

instance pay_storable (c d : Dev nD) (k : Kind) : BI.Storable (upEmb : UEmb _ 𝕄) (pay x c d k) := by
  cases k <;> unfold pay <;> infer_instance
instance talk_storable (g : GSem nD τ sig) (r : ℕ) (d : Dev nD) : BI.Storable (upEmb : UEmb _ 𝕄) ((talk x).payload g r d) := by
  dsimp only [talk]
  split <;> infer_instance

/-! ## What each device owes at launch; the levels -/

/-- The units a device pays other than by the send side of its copies: the semaphores, in the order it pays them. -/
def debts (p : Dev nD) : List (Dev nD × Kind) :=
  if p.val = 0 then [(2, .bar), (1, .recvO 0), (1, .recvM 0), (2, .recvO 0), (2, .recvM 0), (3, .recvO 0), (3, .recvM 0)]
  else if p.val = 2 then [(0, .bar), (3, .recvO 1), (3, .recvM 1), (0, .recvO 1), (0, .recvM 1), (1, .recvO 1), (1, .recvM 1)]
  else [(0, .bar), (2, .bar), (0, .done), (2, .done)]

/-- Debts still open, in the order they fall due: the head of the list is the next one paid. -/
def owing : List (Dev nD × Kind) → CellTallies nD τ sig Unit
  | [] => 0
  | e :: l => owing l + tallyAt (cell e.1 e.2) () (amt e.2)

def O₀ (p : Dev nD) : CellTallies nD τ sig Unit := owing (debts p)

def L (g : GSem nD τ sig) : Finset Unit := if g.1.2 = .tc then {()} else ∅
def level : Kind → ℕ
  | .bar => 1 | .sendO _ => 0 | .sendM _ => 0 | .recvO _ => 2 | .recvM _ => 2 | .done => 3
def lv (g : GSem nD τ sig) (_ : Unit) : ℕ := match kindOf g.2 with | some k => level k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kind) (u : Unit) : lv (cell c k) u = level k := by unfold lv; rw [kindOf_loc]

/-- A cell owed anything is one of the list's. -/
theorem owing_pos : ∀ (l : List (Dev nD × Kind)) {g : GSem nD τ sig} {u : Unit}, 0 < owing l g u → ∃ e ∈ l, g = cell e.1 e.2
  | [], g, u, h => absurd h (Nat.lt_irrefl 0)
  | e :: l, g, u, h => by
    unfold owing at h
    rw [Pi.add_apply, Finsupp.add_apply] at h
    rcases Nat.add_pos_iff_pos_or_pos.mp h with h | h
    · obtain ⟨e', he, hg⟩ := owing_pos l h
      exact ⟨e', List.mem_cons_of_mem _ he, hg⟩
    · rw [tallyAt_apply] at h
      split at h
      · next hg => exact ⟨e, List.mem_cons_self, hg.1⟩
      · exact absurd h (Nat.lt_irrefl 0)

/-- A device may wait on a semaphore that lies below everything it still owes. -/
theorem mayWait (c : Dev nD) (k : Kind) (l : List (Dev nD × Kind)) (h : ∀ e ∈ l, level k < level e.2) :
    (levAts L lv : sProp 𝕄) ⊢ MayWait (c : Thread nD τ) (loc k) () (owing l) :=
  MayOwe.of_cut (L := L) (lev := lv) (level k)
    (fun p hp => by rw [Finset.mem_singleton.mp hp, L_tc]; exact Finset.mem_singleton_self _)
    (fun g u hg => by
      obtain ⟨e, -, rfl⟩ := owing_pos l hg
      rw [L_tc]; exact Finset.mem_singleton_self _)
    (fun p hp => by rw [Finset.mem_singleton.mp hp]; exact le_of_eq (lv_cell c k ()))
    (fun g u hg => by
      obtain ⟨e, he, rfl⟩ := owing_pos l hg
      rw [lv_cell]; exact h e he)

end Cert.KernelIdeal.Talk

end
-- ==== Proof.KI.Steps.lean ====
/- The steps of the talk, each proved once at any device: paying a unit, waiting for a round, copying a slot to another device. -/
module

public import proofs.«01_k».proof.Proof.KI.Talk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev 𝒱₀ : Variants := Variants.none

variable (x : Inp F)

/-! ## What a device holds of the talk -/

/-- What stays true throughout: every semaphore keeps the protocol; the barrier semaphores, and the device's own ones, are in use; the levels. -/
def env (K : GSem nD τ sig → ℕ) (c : Dev nD) : sProp 𝕄 :=
  iprop((bigSep Finset.univ fun e : Dev nD × Kind => cellInv ER (talk x) (K (cell e.1 e.2)) (cell e.1 e.2))
    ∗ (bigSep Finset.univ fun d : Dev nD => reached ER (cell d .bar) 0)
    ∗ (bigSep Finset.univ fun k : Kind => reached ER (cell c k) 0)
    ∗ levAts L lv)

instance env_persistent (K : GSem nD τ sig → ℕ) (c : Dev nD) : BI.Persistent (env x K c) := by unfold env; infer_instance

theorem env_inv (K : GSem nD τ sig → ℕ) (c d : Dev nD) (k : Kind) : env x K c ⊢ cellInv ER (talk x) (K (cell d k)) (cell d k) :=
  sep_elim_left.trans (bigSep_elim (Φ := fun e : Dev nD × Kind => (cellInv ER (talk x) (K (cell e.1 e.2)) (cell e.1 e.2) : sProp 𝕄))
    (Finset.mem_univ (d, k)))
theorem env_bar (K : GSem nD τ sig → ℕ) (c d : Dev nD) : env x K c ⊢ reached ER (cell d .bar) 0 :=
  sep_elim_right.trans (sep_elim_left.trans (bigSep_elim (Φ := fun d : Dev nD => (reached ER (cell d .bar) 0 : sProp 𝕄)) (Finset.mem_univ d)))
theorem env_own (K : GSem nD τ sig → ℕ) (c : Dev nD) (k : Kind) : env x K c ⊢ reached ER (cell c k) 0 :=
  sep_elim_right.trans (sep_elim_right.trans (sep_elim_left.trans
    (bigSep_elim (Φ := fun k : Kind => (reached ER (cell c k) 0 : sProp 𝕄)) (Finset.mem_univ k))))
theorem env_lev (K : GSem nD τ sig → ℕ) (c : Dev nD) : env x K c ⊢ levAts L lv :=
  sep_elim_right.trans (sep_elim_right.trans sep_elim_right)

/-- The rights to pay the units on the list. -/
def toks (p : Dev nD) : List (Dev nD × Kind) → sProp 𝕄
  | [] => iprop(emp)
  | e :: l => iprop(dutyTok ER (cell e.1 e.2) 0 p ∗ toks p l)

/-- Device `p` has still to pay the units on the list, and holds the rights to. -/
def account (p : Dev nD) (l : List (Dev nD × Kind)) : sProp 𝕄 :=
  iprop((∃ W, owes (p : Thread nD τ) (owing l) W) ∗ toks p l)

theorem account_cons (p : Dev nD) (e : Dev nD × Kind) (l : List (Dev nD × Kind)) : (account p (e :: l) : sProp 𝕄)
    = iprop((∃ W, owes (p : Thread nD τ) (owing l + tallyAt (cell e.1 e.2) () (amt e.2)) W) ∗ dutyTok ER (cell e.1 e.2) 0 p ∗ toks p l) := rfl

/-! ## The steps -/

/-- Telling the owner of a slot that the own copy of it may be written. -/
theorem step_bar (K : GSem nD τ sig → ℕ) (c c' : Dev nD) (hp : c ∈ payers c' .bar)
    (l : List (Dev nD × Kind)) {α : Type} {kont : PUnit → Prog (TpuEff nD τ sig (Elt F) Λ₀ .tc) α} {Q : α → sProp 𝕄} :
    iprop(env x K c ∗ account c ((c', .bar) :: l) ∗ pay x c' c .bar ∗ reached ER (cell c' .bar) 0)
      ⊢ iprop((account c l -∗ wp frame (wpE (defs₀ (F := F)) 𝒱₀ c none) Set.univ (kont ⟨⟩) Q)
          -∗ wp frame (wpE (defs₀ (F := F)) 𝒱₀ c none) Set.univ (.op (.semSignal (c' : Thread nD τ) barrier0 1) kont) Q) := by
  rw [account_cons]
  dsimp only
  iintro ⟨#He, ⟨⟨%W, HO⟩, HtP, Ht⟩, Hp, #Hr⟩ Hk
  ihave #HI := (env_inv x K c c' .bar) $$ He
  ihave Hp := (Entails.of_eq (talk_payload x c' .bar 0 c).symm) $$ Hp
  iapply (Rounds.wp_signal 𝒱₀ ER (talk x) (c : Thread nD τ) none (dst := (c' : Thread nD τ)) (sem := barrier0) (r := 0) (d := c)
      (κ := K (cell c' .bar)) (by have := talk_duties x c' .bar; rw [this]; exact hp) (talk_amount x c' .bar 0 c) () (owing l) rfl) $$ [HO HtP Hp]
  · isplitr; · iexact HI
    isplitl [HO]; · iexact HO
    isplitl [HtP]; · iexact HtP
    isplitl [Hp]; · iexact Hp
    iexact Hr
  iintro HO
  iapply Hk
  unfold account
  isplitl [HO]; · iexists W; iexact HO
  iexact Ht

/-- Telling the owner of a slot that the device has finished. -/
theorem step_done (K : GSem nD τ sig → ℕ) (c c' : Dev nD) (hp : c ∈ payers c' .done)
    (l : List (Dev nD × Kind)) {α : Type} {kont : PUnit → Prog (TpuEff nD τ sig (Elt F) Λ₀ .tc) α} {Q : α → sProp 𝕄} :
    iprop(env x K c ∗ account c ((c', .done) :: l) ∗ pay x c' c .done ∗ reached ER (cell c' .done) 0)
      ⊢ iprop((account c l -∗ wp frame (wpE (defs₀ (F := F)) 𝒱₀ c none) Set.univ (kont ⟨⟩) Q)
          -∗ wp frame (wpE (defs₀ (F := F)) 𝒱₀ c none) Set.univ (.op (.semSignal (c' : Thread nD τ) doneS 1) kont) Q) := by
  rw [account_cons]
  dsimp only
  iintro ⟨#He, ⟨⟨%W, HO⟩, HtP, Ht⟩, Hp, #Hr⟩ Hk
  ihave #HI := (env_inv x K c c' .done) $$ He
  ihave Hp := (Entails.of_eq (talk_payload x c' .done 0 c).symm) $$ Hp
  iapply (Rounds.wp_signal 𝒱₀ ER (talk x) (c : Thread nD τ) none (dst := (c' : Thread nD τ)) (sem := doneS) (r := 0) (d := c)
      (κ := K (cell c' .done)) (by have := talk_duties x c' .done; rw [this]; exact hp) (talk_amount x c' .done 0 c) () (owing l) rfl) $$ [HO HtP Hp]
  · isplitr; · iexact HI
    isplitl [HO]; · iexact HO
    isplitl [HtP]; · iexact HtP
    isplitl [Hp]; · iexact Hp
    iexact Hr
  iintro HO
  iapply Hk
  unfold account
  isplitl [HO]; · iexists W; iexact HO
  iexact Ht

/-- Waiting for a whole round of one of the own semaphores, whose level lies below all that is still owed. -/
theorem step_wait (K : GSem nD τ sig → ℕ) (c : Dev nD) (k : Kind) {w : TpuEff nD τ sig (Elt F) Λ₀ .tc PUnit} {n : ℕ}
    (hw : ∀ Q : PUnit → sProp 𝕄, wpE (defs₀ (F := F)) 𝒱₀ c none Set.univ w Q = waitSpec (c : Thread nD τ) Set.univ (loc k) n Q)
    (hn : n = (payers c k).card * amt k) (l : List (Dev nD × Kind)) (hl : ∀ e ∈ l, level k < level e.2)
    {α : Type} {kont : PUnit → Prog (TpuEff nD τ sig (Elt F) Λ₀ .tc) α} {Q : α → sProp 𝕄} :
    iprop(env x K c ∗ cred (tallyAt (cell c k) () n) ∗ account c l ∗ atPos ER (cell c k) 0 ∅ 0)
      ⊢ iprop(((account c l ∗ atPos ER (cell c k) 1 ∅ 0 ∗ bigSep (payers c k) fun d => pay x c d k)
            -∗ wp frame (wpE (defs₀ (F := F)) 𝒱₀ c none) Set.univ (kont ⟨⟩) Q)
          -∗ wp frame (wpE (defs₀ (F := F)) 𝒱₀ c none) Set.univ (.op w kont) Q) := by
  unfold account
  iintro ⟨#He, Hc, ⟨⟨%W, HO⟩, Ht⟩, Hat⟩ Hk
  ihave #HI := (env_inv x K c c k) $$ He
  ihave #Hlev := (env_lev x K c) $$ He
  iapply (Rounds.wp_wait_rest_token 𝒱₀ ER (talk x) (c : Thread nD τ) none (κ := K (cell c k)) (sm := loc k) (k' := n)
      hw (Set.mem_univ _) () (O := owing l) (W := W) (R := 0) (m := 0) (T := ∅)
      ((Nat.zero_add _).trans (hn.trans (talk_expect x c k).symm))) $$ [Hc HO Hat]
  · isplitr; · iexact HI
    isplitl [Hc]; · iexact Hc
    isplitl [HO]; · iexact HO
    isplitr; · iapply (mayWait (F := F) c k l hl); iexact Hlev
    iexact Hat
  iintro ⟨HO, Hat, -, Hpay⟩
  ihave Hp := (Entails.of_eq (talk_rest x c k)) $$ Hpay
  iapply Hk
  isplitl [HO Ht]
  · isplitl [HO]; · iexists _; iexact HO
    iexact Ht
  isplitl [Hat]; · iexact Hat
  iexact Hp

/-- A slot copied onto the same slot elsewhere reads there as it did here. -/
theorem landed {sp : Space} {s : Shape} {e : EltTy} (v : View sig .tc sp s e) (f g : v.ty.Contents (Elt F)) :
    ∀ i ∈ v.set, v.write (Elt F) f (v.read (Elt F) g) Finset.univ i = g i := fun i hi => by
  rw [View.write_read_eq_piecewise]
  exact Finset.piecewise_eq_of_mem _ _ _ hi

/-- The owner of slot `s` copies its outputs to another device. -/
theorem step_copyO (K : GSem nD τ sig → ℕ) (c c' : Dev nD) (s : Fin 2) (j : Fin 3) (hc : own s = c) (hsl : slotOf c = s)
    (h₁ : c ∈ payers c (.sendO j)) (h₂ : c ∈ payers c' (.recvO s)) (l : List (Dev nD × Kind))
    {hsrc : (oSlot s).view.WordExact} {hdst : (oSlot s).view.WordExact}
    {hsem : DmaTarget.Typed Space.vmem (.dma (recvArr s 0)) (.remote (c' : Thread nD τ) (oSlot s) (.dma (sendArr j 0)) rfl)}
    {α : Type} {kont : PUnit → Prog (TpuEff nD τ sig (Elt F) Λ₀ .tc) α} {Q : α → sProp 𝕄} :
    iprop(env x K c ∗ oPts c s (lend j) (oAll x) ∗ (∃ f, oPts c' s fullShare f) ∗ reached ER (cell c' (.recvO s)) 0
        ∗ account c ((c', .recvO s) :: l) ∗ dutyTok ER (cell c (.sendO j)) 0 c)
      ⊢ iprop(((cred (tallyAt (cell c (.sendO j)) () No) ∗ account c l) -∗ wp frame (wpE (defs₀ (F := F)) 𝒱₀ c none) Set.univ (kont ⟨⟩) Q)
          -∗ wp frame (wpE (defs₀ (F := F)) 𝒱₀ c none) Set.univ (.op (.enqueueDma (oSlot s)
              (.remote (c' : Thread nD τ) (oSlot s) (.dma (sendArr j 0)) rfl) (.dma (recvArr s 0)) hsrc hdst hsem) kont) Q) := by
  rw [account_cons]
  dsimp only
  iintro ⟨#He, Hs, ⟨%fd, Hd⟩, #Hr, ⟨⟨%W, HO⟩, HtN, Ht⟩, HtS⟩ Hk
  ihave #HI₁ := (env_inv x K c c (.sendO j)) $$ He
  ihave #HI₂ := (env_inv x K c c' (.recvO s)) $$ He
  ihave #HrS := (env_own x K c (.sendO j)) $$ He
  ihave #HrD := (env_own x K c .done) $$ He
  iapply (Rounds.wp_send_pointsTo_with 𝒱₀ ER (talk x) (c : Thread nD τ) none (c' := (c' : Thread nD τ)) (src := oSlot s) (dst := oSlot s)
      (sS := .dma (sendArr j 0)) (sem := .dma (recvArr s 0)) (q := lend j) (fs := oAll x) (fd := fd)
      (F := reached ER (cell c .done) 0) (κ₁ := K (cell c (.sendO j))) (κ₂ := K (cell c' (.recvO s)))
      (r₁ := 0) (r₂ := 0) (d₁ := c) (d₂ := c)
      (by have := talk_duties x c (.sendO j); rw [this]; exact h₁) (by have := talk_duties x c' (.recvO s); rw [this]; exact h₂)
      () () No (No_slot s) (talk_amount x c (.sendO j) 0 c) (talk_amount x c' (.recvO s) 0 c) (owing l) rfl (W := W)
      (by rw [talk_payload x c (.sendO j)]; unfold pay; rw [hsl])
      (by rw [talk_payload x c' (.recvO s)]; show _ ⊢ iprop(oPts c' s fullShare (oAll x) ∗ reached ER (cell (own s) .done) 0); rw [hc]
          exact sep_mono_left (Entails.of_eq (pointsTo_congr (landed (oSlot s).view fd (oAll x)))))) $$ [Hs Hd HO HtN HtS]
  · isplitr; · iexact HI₁
    isplitr; · iexact HI₂
    isplitl [Hs]; · iexact Hs
    isplitl [Hd]
    · isplitl [Hd]; · iexact Hd
      iexact HrD
    isplitl [HO]; · iexact HO
    isplitl [HtS]; · iexact HtS
    isplitr; · iexact HrS
    isplitl [HtN]; · iexact HtN
    iexact Hr
  iintro ⟨Hc, HO⟩
  iapply Hk
  isplitl [Hc]; · iexact Hc
  unfold account
  isplitl [HO]; · iexists W; iexact HO
  iexact Ht

/-- The owner of slot `s` copies its maxima and sums to another device. -/
theorem step_copyM (K : GSem nD τ sig → ℕ) (c c' : Dev nD) (s : Fin 2) (j : Fin 3) (hsl : slotOf c = s)
    (h₁ : c ∈ payers c (.sendM j)) (h₂ : c ∈ payers c' (.recvM s)) (l : List (Dev nD × Kind))
    {hsrc : (mSlot s).view.WordExact} {hdst : (mSlot s).view.WordExact}
    {hsem : DmaTarget.Typed Space.vmem (.dma (recvArr s 1)) (.remote (c' : Thread nD τ) (mSlot s) (.dma (sendArr j 1)) rfl)}
    {α : Type} {kont : PUnit → Prog (TpuEff nD τ sig (Elt F) Λ₀ .tc) α} {Q : α → sProp 𝕄} :
    iprop(env x K c ∗ mPts c s (lend j) (mAll x) ∗ (∃ f, mPts c' s fullShare f) ∗ reached ER (cell c' (.recvM s)) 0
        ∗ account c ((c', .recvM s) :: l) ∗ dutyTok ER (cell c (.sendM j)) 0 c)
      ⊢ iprop(((cred (tallyAt (cell c (.sendM j)) () Nm) ∗ account c l) -∗ wp frame (wpE (defs₀ (F := F)) 𝒱₀ c none) Set.univ (kont ⟨⟩) Q)
          -∗ wp frame (wpE (defs₀ (F := F)) 𝒱₀ c none) Set.univ (.op (.enqueueDma (mSlot s)
              (.remote (c' : Thread nD τ) (mSlot s) (.dma (sendArr j 1)) rfl) (.dma (recvArr s 1)) hsrc hdst hsem) kont) Q) := by
  rw [account_cons]
  dsimp only
  iintro ⟨#He, Hs, ⟨%fd, Hd⟩, #Hr, ⟨⟨%W, HO⟩, HtN, Ht⟩, HtS⟩ Hk
  ihave #HI₁ := (env_inv x K c c (.sendM j)) $$ He
  ihave #HI₂ := (env_inv x K c c' (.recvM s)) $$ He
  ihave #HrS := (env_own x K c (.sendM j)) $$ He
  iapply (Rounds.wp_send_pointsTo 𝒱₀ ER (talk x) (c : Thread nD τ) none (c' := (c' : Thread nD τ)) (src := mSlot s) (dst := mSlot s)
      (sS := .dma (sendArr j 1)) (sem := .dma (recvArr s 1)) (q := lend j) (fs := mAll x) (fd := fd)
      (κ₁ := K (cell c (.sendM j))) (κ₂ := K (cell c' (.recvM s)))
      (r₁ := 0) (r₂ := 0) (d₁ := c) (d₂ := c)
      (by have := talk_duties x c (.sendM j); rw [this]; exact h₁) (by have := talk_duties x c' (.recvM s); rw [this]; exact h₂)
      () () Nm (Nm_slot s) (talk_amount x c (.sendM j) 0 c) (talk_amount x c' (.recvM s) 0 c) (owing l) rfl (W := W)
      (by rw [talk_payload x c (.sendM j)]; unfold pay; rw [hsl])
      (by rw [talk_payload x c' (.recvM s)]; unfold pay
          exact Entails.of_eq (pointsTo_congr (landed (mSlot s).view fd (mAll x))))) $$ [Hs Hd HO HtN HtS]
  · isplitr; · iexact HI₁
    isplitr; · iexact HI₂
    isplitl [Hs]; · iexact Hs
    isplitl [Hd]; · iexact Hd
    isplitl [HO]; · iexact HO
    isplitl [HtS]; · iexact HtS
    isplitr; · iexact HrS
    isplitl [HtN]; · iexact HtN
    iexact Hr
  iintro ⟨Hc, HO⟩
  iapply Hk
  isplitl [Hc]; · iexact Hc
  unfold account
  isplitl [HO]; · iexists W; iexact HO
  iexact Ht

/-- A semaphore whose round is over is back at zero; so is one that is never paid. -/
theorem step_close (K : GSem nD τ sig → ℕ) (c : Dev nD) (k : Kind) :
    iprop(env x K c ∗ atPos ER (cell c k) 1 ∅ 0) ⊢ (|={Set.univ}=> semVal (cell c k) 0 : sProp 𝕄) := by
  iintro ⟨#He, Hat⟩
  ihave #HI := (env_inv x K c c k) $$ He
  iapply (Rounds.cell_close ER (talk x) (Set.mem_univ (K (cell c k))) id (talk_later x (cell c k)))
  isplitr; · iexact HI
  iexact Hat
theorem step_close0 (K : GSem nD τ sig → ℕ) (c : Dev nD) (k : Kind) (h : payers c k = ∅) :
    iprop(env x K c ∗ atPos ER (cell c k) 0 ∅ 0) ⊢ (|={Set.univ}=> semVal (cell c k) 0 : sProp 𝕄) := by
  iintro ⟨#He, Hat⟩
  ihave #HI := (env_inv x K c c k) $$ He
  iapply (Rounds.cell_close ER (talk x) (Set.mem_univ (K (cell c k))) id (talk_unused x c k h))
  isplitr; · iexact HI
  iexact Hat

end Cert.KernelIdeal.Talk

end
-- ==== Proof.KI.Slots.lean ====
/- What the tiles stored into a slot make of it, and a slot's shares. -/
module

public import proofs.«01_k».proof.Proof.KI.Steps
public import Idealize.ShloMosaic.Lib.Ring

@[expose] public section

noncomputable section

namespace Cert.KernelIdeal.Talk

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

variable (x : Inp F)

/-! ## The tiles of a slot -/

theorem inb_oT (s b : Fin 2) (h : Fin 4) :
    ∀ a, (![s.val, b.val, 0, h.val * 64] : Fin 4 → ℕ) a + S1x1x128x64.size a ≤ S2x2x128x256.size a := by revert s b h; decide
theorem inb_mT (s b : Fin 2) (h : Fin 4) (t : Fin 2) :
    ∀ a, (![s.val, b.val, h.val, t.val, 0] : Fin 5 → ℕ) a + S1x1x1x1x128.size a ≤ S2x2x4x2x128.size a := by revert s b h t; decide

abbrev oTileRect (s b : Fin 2) (h : Fin 4) : Rect S2x2x128x256 :=
  Rect.unit (s := S2x2x128x256) ![s.val, b.val, 0, h.val * 64] S1x1x128x64.size (inb_oT s b h)
abbrev mTileRect (s b : Fin 2) (h : Fin 4) (t : Fin 2) : Rect S2x2x4x2x128 :=
  Rect.unit (s := S2x2x4x2x128) ![s.val, b.val, h.val, t.val, 0] S1x1x1x1x128.size (inb_mT s b h t)

theorem oAll_tile (s b : Fin 2) (h : Fin 4) (j : S1x1x128x64.Idx) : oAll x ((oTileRect s b h).emb j) = oTile x s b h j := by
  have h0 : (j 0).val = 0 := by have : (j 0).val < 1 := (j 0).isLt; omega
  have h1 : (j 1).val = 0 := by have : (j 1).val < 1 := (j 1).isLt; omega
  have h3 : (j 3).val < 64 := (j 3).isLt
  have e0 : ((oTileRect s b h).emb j) 0 = s := Fin.ext (show s.val + 1 * (j 0).val = s.val by omega)
  have e1 : ((oTileRect s b h).emb j) 1 = b := Fin.ext (show b.val + 1 * (j 1).val = b.val by omega)
  have v2 : (((oTileRect s b h).emb j) 2).val = (j 2).val := show 0 + 1 * (j 2).val = (j 2).val by omega
  have v3 : (((oTileRect s b h).emb j) 3).val = h.val * 64 + (j 3).val := show h.val * 64 + 1 * (j 3).val = h.val * 64 + (j 3).val by omega
  unfold oAll
  rw [e0, e1]
  have eh : (⟨(((oTileRect s b h).emb j) 3).val / 64, by have : (((oTileRect s b h).emb j) 3).val < 256 := (((oTileRect s b h).emb j) 3).isLt; omega⟩ : Fin 4) = h :=
    Fin.ext (show (((oTileRect s b h).emb j) 3).val / 64 = h.val by rw [v3]; omega)
  rw [eh]
  congr 1
  rw [eq_ix4 j]
  funext a
  match a with
  | 0 => exact Fin.ext h0.symm
  | 1 => exact Fin.ext h1.symm
  | 2 => exact Fin.ext v2
  | 3 => exact Fin.ext (show (((oTileRect s b h).emb j) 3).val % 64 = (j 3).val by rw [v3]; omega)

theorem mAll_tile (s b : Fin 2) (h : Fin 4) (t : Fin 2) (j : S1x1x1x1x128.Idx) : mAll x ((mTileRect s b h t).emb j) = msTile x s b h t j := by
  have h0 : (j 0).val = 0 := by have : (j 0).val < 1 := (j 0).isLt; omega
  have h1 : (j 1).val = 0 := by have : (j 1).val < 1 := (j 1).isLt; omega
  have h2 : (j 2).val = 0 := by have : (j 2).val < 1 := (j 2).isLt; omega
  have h3 : (j 3).val = 0 := by have : (j 3).val < 1 := (j 3).isLt; omega
  have e0 : ((mTileRect s b h t).emb j) 0 = s := Fin.ext (show s.val + 1 * (j 0).val = s.val by omega)
  have e1 : ((mTileRect s b h t).emb j) 1 = b := Fin.ext (show b.val + 1 * (j 1).val = b.val by omega)
  have e2 : ((mTileRect s b h t).emb j) 2 = h := Fin.ext (show h.val + 1 * (j 2).val = h.val by omega)
  have e3 : ((mTileRect s b h t).emb j) 3 = t := Fin.ext (show t.val + 1 * (j 3).val = t.val by omega)
  have v4 : (((mTileRect s b h t).emb j) 4).val = (j 4).val := show 0 + 1 * (j 4).val = (j 4).val by omega
  unfold mAll
  rw [e0, e1, e2, e3]
  congr 1
  rw [eq_ix5 j]
  funext a
  match a with
  | 0 => exact Fin.ext h0.symm
  | 1 => exact Fin.ext h1.symm
  | 2 => exact Fin.ext h2.symm
  | 3 => exact Fin.ext h3.symm
  | 4 => exact Fin.ext v4

theorem mem_oTile (s : Fin 2) (i : S2x2x128x256.Idx) (hi : i ∈ (oRect s).set) :
    i ∈ (oTileRect s (i 1) ⟨(i 3).val / 64, by have : (i 3).val < 256 := (i 3).isLt; omega⟩).set := by
  have h0 : s.val ≤ (i 0).val ∧ (i 0).val < s.val + 1 := Rect.mem_set_unit.mp hi 0
  have h2 : (i 2).val < 128 := (i 2).isLt
  rw [Rect.mem_set_unit]
  intro a
  match a with
  | 0 => exact h0
  | 1 => exact (show (i 1).val ≤ (i 1).val ∧ (i 1).val < (i 1).val + 1 by omega)
  | 2 => exact (show 0 ≤ (i 2).val ∧ (i 2).val < 0 + 128 by omega)
  | 3 => exact (show (i 3).val / 64 * 64 ≤ (i 3).val ∧ (i 3).val < (i 3).val / 64 * 64 + 64 by omega)

theorem mem_mTile (s : Fin 2) (i : S2x2x4x2x128.Idx) (hi : i ∈ (mRect s).set) :
    i ∈ (mTileRect s (i 1) (i 2) (i 3)).set := by
  have h0 : s.val ≤ (i 0).val ∧ (i 0).val < s.val + 1 := Rect.mem_set_unit.mp hi 0
  have h4 : (i 4).val < 128 := (i 4).isLt
  rw [Rect.mem_set_unit]
  intro a
  match a with
  | 0 => exact h0
  | 1 => exact (show (i 1).val ≤ (i 1).val ∧ (i 1).val < (i 1).val + 1 by omega)
  | 2 => exact (show (i 2).val ≤ (i 2).val ∧ (i 2).val < (i 2).val + 1 by omega)
  | 3 => exact (show (i 3).val ≤ (i 3).val ∧ (i 3).val < (i 3).val + 1 by omega)
  | 4 => exact (show 0 ≤ (i 4).val ∧ (i 4).val < 0 + 128 by omega)

/-- The tiles in the order of the stores, the last one first. -/
def bh : List (Fin 2 × Fin 4) := [(1, 3), (1, 2), (1, 1), (1, 0), (0, 3), (0, 2), (0, 1), (0, 0)]

theorem mem_bh (b : Fin 2) (h : Fin 4) : (b, h) ∈ bh := by revert b h; decide

def oPieces (s : Fin 2) : List (View.Piece (Elt F) S2x2x128x256 .bf16) := bh.map fun e => ⟨oTileRect s e.1 e.2, oTile x s e.1 e.2⟩
def mPieces (s : Fin 2) : List (View.Piece (Elt F) S2x2x4x2x128 .f32) :=
  bh.flatMap fun e => [⟨mTileRect s e.1 e.2 1, msTile x s e.1 e.2 1⟩, ⟨mTileRect s e.1 e.2 0, msTile x s e.1 e.2 0⟩]

/-- A slot all of whose tiles have been stored holds `oAll`. -/
theorem oPieces_read {κ : Idealize.ShloMosaic.Kind} {sp : Space} (v : View sig κ sp S2x2x128x256 .bf16) (f : v.ty.Contents (Elt F)) (s : Fin 2)
    (i : S2x2x128x256.Idx) (hi : i ∈ (oRect s).set) : v.read (Elt F) (v.writes (Elt F) f (oPieces x s)) i = oAll x i := by
  refine View.read_writes_apply_of_pieces v f (oAll x) (oPieces x s) (fun p hp => ?_) i
    ⟨⟨_, oTile x s _ _⟩, List.mem_map.mpr ⟨_, mem_bh _ _, rfl⟩, mem_oTile s i hi⟩
  obtain ⟨e, -, rfl⟩ := List.mem_map.mp hp
  exact fun j => (oAll_tile x s e.1 e.2 j).symm

theorem mem_pair (s b : Fin 2) (h : Fin 4) (t : Fin 2) : (⟨mTileRect s b h t, msTile x s b h t⟩ : View.Piece (Elt F) S2x2x4x2x128 .f32) ∈
    [⟨mTileRect s b h 1, msTile x s b h 1⟩, ⟨mTileRect s b h 0, msTile x s b h 0⟩] :=
  match t with
  | 0 => List.mem_cons_of_mem _ List.mem_cons_self
  | 1 => List.mem_cons_self

theorem pair_agree (s b : Fin 2) (h : Fin 4) (p : View.Piece (Elt F) S2x2x4x2x128 .f32)
    (hp : p ∈ [⟨mTileRect s b h 1, msTile x s b h 1⟩, ⟨mTileRect s b h 0, msTile x s b h 0⟩]) (j : p.1.shape.Idx) :
    p.2 j = mAll x (p.1.emb j) := by
  rcases List.mem_cons.mp hp with h1 | hp
  · revert j
    rw [h1]
    exact fun j => (mAll_tile x s b h 1 j).symm
  · revert j
    rw [List.mem_singleton.mp hp]
    intro j
    dsimp only
    exact (mAll_tile x s b h 0 j).symm

theorem mPieces_read {κ : Idealize.ShloMosaic.Kind} {sp : Space} (v : View sig κ sp S2x2x4x2x128 .f32) (f : v.ty.Contents (Elt F)) (s : Fin 2)
    (i : S2x2x4x2x128.Idx) (hi : i ∈ (mRect s).set) : v.read (Elt F) (v.writes (Elt F) f (mPieces x s)) i = mAll x i := by
  refine View.read_writes_apply_of_pieces v f (mAll x) (mPieces x s) (fun p hp => ?_) i
    ⟨⟨_, msTile x s (i 1) (i 2) (i 3)⟩, List.mem_flatMap.mpr ⟨_, mem_bh (i 1) (i 2), mem_pair x s _ _ _⟩, mem_mTile s i hi⟩
  obtain ⟨e, -, he⟩ := List.mem_flatMap.mp hp
  exact pair_agree x s e.1 e.2 p he

theorem oStored (s : Fin 2) (f : S2x2x128x256.Idx → Elt F .bf16) :
    ∀ i : S2x2x128x256.Idx, i ∈ oM.view.setOn (oRect s).set → oM.view.writes (Elt F) f (oPieces x s) i = oAll x i := by
  intro z hz
  have h := oPieces_read x oM.view f s z (oM.view.mem_setOn.mp hz)
  rw [View.read_whole] at h
  exact h

theorem mStored (s : Fin 2) (f : S2x2x4x2x128.Idx → Elt F .f32) :
    ∀ i : S2x2x4x2x128.Idx, i ∈ mM.view.setOn (mRect s).set → mM.view.writes (Elt F) f (mPieces x s) i = mAll x i := by
  intro z hz
  have h := mPieces_read x mM.view f s z (mM.view.mem_setOn.mp hz)
  rw [View.read_whole] at h
  exact h

/-! ## The slots as sets of elements; their shares -/

theorem oSlot_set (s : Fin 2) : (oSlot s).view.set = oM.view.setOn (oRect s).set :=
  (Memref.set_view_squeeze _ _).trans (View.set_slice _ _)
theorem mSlot_set (s : Fin 2) : (mSlot s).view.set = mM.view.setOn (mRect s).set :=
  (Memref.set_view_squeeze _ _).trans (View.set_slice _ _)

theorem oPts_eq (d : Dev nD) (s : Fin 2) (q : PosShare TreeShare) (f : S2x2x128x256.Idx → Elt F .bf16) :
    (oPts d s q f : sProp 𝕄) = (oM.view.loc (d : Thread nD τ) ↦[oM.view.setOn (oRect s).set]{q} f) := by
  show (oM.view.loc (d : Thread nD τ) ↦[(oSlot s).view.set]{q} f : sProp 𝕄) = _
  rw [oSlot_set]
theorem mPts_eq (d : Dev nD) (s : Fin 2) (q : PosShare TreeShare) (f : S2x2x4x2x128.Idx → Elt F .f32) :
    (mPts d s q f : sProp 𝕄) = (mM.view.loc (d : Thread nD τ) ↦[mM.view.setOn (mRect s).set]{q} f) := by
  show (mM.view.loc (d : Thread nD τ) ↦[(mSlot s).view.set]{q} f : sProp 𝕄) = _
  rw [mSlot_set]

/-- A slot of device `c` all of whose tiles have been stored, held as the slot at `oAll`. -/
theorem oFilled (c : Dev nD) (s : Fin 2) (f : S2x2x128x256.Idx → Elt F .bf16) (G : List (View.Piece (Elt F) S2x2x128x256 .bf16)) (hG : G = oPieces x s) :
    (oM.view.loc (c : Thread nD τ) ↦[oM.view.setOn (oRect s).set]{fullShare} oM.view.writes (Elt F) f G : sProp 𝕄) = oPts c s fullShare (oAll x) := by
  subst hG
  rw [oPts_eq]
  exact pointsTo_congr (oStored x s f)
theorem mFilled (c : Dev nD) (s : Fin 2) (f : S2x2x4x2x128.Idx → Elt F .f32) (G : List (View.Piece (Elt F) S2x2x4x2x128 .f32)) (hG : G = mPieces x s) :
    (mM.view.loc (c : Thread nD τ) ↦[mM.view.setOn (mRect s).set]{fullShare} mM.view.writes (Elt F) f G : sProp 𝕄) = mPts c s fullShare (mAll x) := by
  subst hG
  rw [mPts_eq]
  exact pointsTo_congr (mStored x s f)

/-- The whole is the part kept and the three parts lent. -/
theorem shares {ℓ : Loc nD τ sig} {I : Finset ℓ.ty.Idx} {f : Buf (Elt F) ℓ} :
    (ℓ ↦[I]{fullShare} f : sProp 𝕄) ⊣⊢ iprop((ℓ ↦[I]{keep} f) ∗ (ℓ ↦[I]{lend 0} f) ∗ (ℓ ↦[I]{lend 1} f) ∗ (ℓ ↦[I]{lend 2} f)) := by
  have e (q : PosShare TreeShare) : (ℓ ↦[I]{q} f : sProp 𝕄) = iprop((ℓ ↦[I]{q.left} f) ∗ (ℓ ↦[I]{q.right} f)) :=
    by
    have h := pointsTo_share (Ix := Unit) (Name := ℕ) (U := UU) (Lvl := ℕ) (ℓ := ℓ) (I := I) (f := f) (PosShare.mem_left_op_right q)
    exact equiv_iff.mp ⟨h.1, h.2⟩
  rw [e fullShare, e fullShare.left, e fullShare.right]
  constructor
  · iintro ⟨⟨H0, H1⟩, H2, H3⟩
    isplitl [H0]; · iexact H0
    isplitl [H1]; · iexact H1
    isplitl [H2]; · iexact H2
    iexact H3
  · iintro ⟨H0, H1, H2, H3⟩
    isplitl [H0 H1]
    · isplitl [H0]; · iexact H0
      iexact H1
    · isplitl [H2]; · iexact H2
      iexact H3

end Cert.KernelIdeal.Talk

end
-- ==== Proof.KI.Start.lean ====
/- What a device enters the call with and leaves it with; the waits, each named by its semaphore; what every device merges. -/
module

public import proofs.«01_k».proof.Proof.KI.Slots

public import Idealize.ShloMosaic.Lib.VecWindow

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (x : Inp F)

/-! ## The waits -/

theorem wait_bar (K : GSem nD τ sig → ℕ) (c : Dev nD) (hn : (payers c .bar).card = 3) (l : List (Dev nD × Kind))
    (hl : ∀ e ∈ l, level .bar < level e.2) {α : Type} {kont : PUnit → Prog (TpuEff nD τ sig (Elt F) Λ₀ .tc) α} {Q : α → sProp 𝕄} :
    iprop(env x K c ∗ cred (tallyAt (cell c .bar) () ((payers c .bar).card * amt .bar)) ∗ account c l ∗ atPos ER (cell c .bar) 0 ∅ 0)
      ⊢ iprop(((account c l ∗ atPos ER (cell c .bar) 1 ∅ 0 ∗ bigSep (payers c .bar) fun d => pay x c d .bar)
            -∗ wp frame (wpE (defs₀ (F := F)) 𝒱₀ c none) Set.univ (kont ⟨⟩) Q)
          -∗ wp frame (wpE (defs₀ (F := F)) 𝒱₀ c none) Set.univ (.op (.semWait barrier0 (3#32).toInt) kont) Q) := by
  rw [hn]
  exact step_wait x K c .bar (n := 3) (w := .semWait barrier0 3) (wpE_semWait_eq 𝒱₀ (c : Thread nD τ) none Set.univ)
    (by rw [hn]; rfl) l hl

theorem wait_done (K : GSem nD τ sig → ℕ) (c : Dev nD) (hn : (payers c .done).card = 2) (l : List (Dev nD × Kind))
    (hl : ∀ e ∈ l, level .done < level e.2) {α : Type} {kont : PUnit → Prog (TpuEff nD τ sig (Elt F) Λ₀ .tc) α} {Q : α → sProp 𝕄} :
    iprop(env x K c ∗ cred (tallyAt (cell c .done) () ((payers c .done).card * amt .done)) ∗ account c l ∗ atPos ER (cell c .done) 0 ∅ 0)
      ⊢ iprop(((account c l ∗ atPos ER (cell c .done) 1 ∅ 0 ∗ bigSep (payers c .done) fun d => pay x c d .done)
            -∗ wp frame (wpE (defs₀ (F := F)) 𝒱₀ c none) Set.univ (kont ⟨⟩) Q)
          -∗ wp frame (wpE (defs₀ (F := F)) 𝒱₀ c none) Set.univ (.op (.semWait doneS (2#32).toInt) kont) Q) := by
  rw [hn]
  exact step_wait x K c .done (n := 2) (w := .semWait doneS 2) (wpE_semWait_eq 𝒱₀ (c : Thread nD τ) none Set.univ)
    (by rw [hn]; rfl) l hl

/-- Waiting for outputs to land. -/
theorem wait_recvO (K : GSem nD τ sig → ℕ) (c : Dev nD) (s : Fin 2) (hn : payers c (.recvO s) = {own s}) (l : List (Dev nD × Kind))
    (hl : ∀ e ∈ l, level (.recvO s) < level e.2) {h₁ : (oSlot s).view.WordExact} {h₂ : (oSlot s).view.WordExact}
    {α : Type} {kont : PUnit → Prog (TpuEff nD τ sig (Elt F) Λ₀ .tc) α} {Q : α → sProp 𝕄} :
    iprop(env x K c ∗ cred (tallyAt (cell c (.recvO s)) () ((payers c (.recvO s)).card * amt (.recvO s))) ∗ account c l ∗ atPos ER (cell c (.recvO s)) 0 ∅ 0)
      ⊢ iprop(((account c l ∗ atPos ER (cell c (.recvO s)) 1 ∅ 0 ∗ oPts c s fullShare (oAll x) ∗ reached ER (cell (own s) .done) 0)
            -∗ wp frame (wpE (defs₀ (F := F)) 𝒱₀ c none) Set.univ (kont ⟨⟩) Q)
          -∗ wp frame (wpE (defs₀ (F := F)) 𝒱₀ c none) Set.univ (.op (.waitDma2 (recvArr s 0) (oSlot s) (oSlot s) h₁ h₂) kont) Q) := by
  have h := step_wait x K c (.recvO s) (n := (payers c (.recvO s)).card * amt (.recvO s)) (w := .waitDma2 (recvArr s 0) (oSlot s) (oSlot s) h₁ h₂)
    (fun Q => by rw [wpE_waitDma2_eq 𝒱₀ (c : Thread nD τ) none Set.univ, No_slot, hn, Finset.card_singleton, Nat.one_mul]; rfl) rfl l hl (kont := kont) (Q := Q)
  rw [hn, bigSep_singleton] at h
  rw [hn]
  exact h

/-- Waiting for maxima and sums to land. -/
theorem wait_recvM (K : GSem nD τ sig → ℕ) (c : Dev nD) (s : Fin 2) (hn : payers c (.recvM s) = {own s}) (l : List (Dev nD × Kind))
    (hl : ∀ e ∈ l, level (.recvM s) < level e.2) {h₁ : (mSlot s).view.WordExact} {h₂ : (mSlot s).view.WordExact}
    {α : Type} {kont : PUnit → Prog (TpuEff nD τ sig (Elt F) Λ₀ .tc) α} {Q : α → sProp 𝕄} :
    iprop(env x K c ∗ cred (tallyAt (cell c (.recvM s)) () ((payers c (.recvM s)).card * amt (.recvM s))) ∗ account c l ∗ atPos ER (cell c (.recvM s)) 0 ∅ 0)
      ⊢ iprop(((account c l ∗ atPos ER (cell c (.recvM s)) 1 ∅ 0 ∗ mPts c s fullShare (mAll x))
            -∗ wp frame (wpE (defs₀ (F := F)) 𝒱₀ c none) Set.univ (kont ⟨⟩) Q)
          -∗ wp frame (wpE (defs₀ (F := F)) 𝒱₀ c none) Set.univ (.op (.waitDma2 (recvArr s 1) (mSlot s) (mSlot s) h₁ h₂) kont) Q) := by
  have h := step_wait x K c (.recvM s) (n := (payers c (.recvM s)).card * amt (.recvM s)) (w := .waitDma2 (recvArr s 1) (mSlot s) (mSlot s) h₁ h₂)
    (fun Q => by rw [wpE_waitDma2_eq 𝒱₀ (c : Thread nD τ) none Set.univ, Nm_slot, hn, Finset.card_singleton, Nat.one_mul]; rfl) rfl l hl (kont := kont) (Q := Q)
  rw [hn, bigSep_singleton] at h
  rw [hn]
  exact h

/-- Waiting for the own outputs to be read out: the part lent comes back. -/
theorem wait_sendO (K : GSem nD τ sig → ℕ) (c : Dev nD) (s : Fin 2) (j : Fin 3) (hsl : slotOf c = s) (hn : payers c (.sendO j) = {c})
    (l : List (Dev nD × Kind)) (hl : ∀ e ∈ l, level (.sendO j) < level e.2) {h₁ : (oSlot s).view.WordExact} {h₂ : (oSlot s).view.WordExact}
    {α : Type} {kont : PUnit → Prog (TpuEff nD τ sig (Elt F) Λ₀ .tc) α} {Q : α → sProp 𝕄} :
    iprop(env x K c ∗ cred (tallyAt (cell c (.sendO j)) () No) ∗ account c l ∗ atPos ER (cell c (.sendO j)) 0 ∅ 0)
      ⊢ iprop(((account c l ∗ atPos ER (cell c (.sendO j)) 1 ∅ 0 ∗ oPts c s (lend j) (oAll x))
            -∗ wp frame (wpE (defs₀ (F := F)) 𝒱₀ c none) Set.univ (kont ⟨⟩) Q)
          -∗ wp frame (wpE (defs₀ (F := F)) 𝒱₀ c none) Set.univ (.op (.waitDma2 (sendArr j 0) (oSlot s) (oSlot s) h₁ h₂) kont) Q) := by
  have h := step_wait x K c (.sendO j) (n := No) (w := .waitDma2 (sendArr j 0) (oSlot s) (oSlot s) h₁ h₂)
    (fun Q => by rw [wpE_waitDma2_eq 𝒱₀ (c : Thread nD τ) none Set.univ, No_slot])
    (by rw [hn, Finset.card_singleton, Nat.one_mul]; rfl) l hl (kont := kont) (Q := Q)
  rw [hn, bigSep_singleton] at h
  subst hsl
  exact h

/-- Waiting for the own maxima and sums to be read out. -/
theorem wait_sendM (K : GSem nD τ sig → ℕ) (c : Dev nD) (s : Fin 2) (j : Fin 3) (hsl : slotOf c = s) (hn : payers c (.sendM j) = {c})
    (l : List (Dev nD × Kind)) (hl : ∀ e ∈ l, level (.sendM j) < level e.2) {h₁ : (mSlot s).view.WordExact} {h₂ : (mSlot s).view.WordExact}
    {α : Type} {kont : PUnit → Prog (TpuEff nD τ sig (Elt F) Λ₀ .tc) α} {Q : α → sProp 𝕄} :
    iprop(env x K c ∗ cred (tallyAt (cell c (.sendM j)) () Nm) ∗ account c l ∗ atPos ER (cell c (.sendM j)) 0 ∅ 0)
      ⊢ iprop(((account c l ∗ atPos ER (cell c (.sendM j)) 1 ∅ 0 ∗ mPts c s (lend j) (mAll x))
            -∗ wp frame (wpE (defs₀ (F := F)) 𝒱₀ c none) Set.univ (kont ⟨⟩) Q)
          -∗ wp frame (wpE (defs₀ (F := F)) 𝒱₀ c none) Set.univ (.op (.waitDma2 (sendArr j 1) (mSlot s) (mSlot s) h₁ h₂) kont) Q) := by
  have h := step_wait x K c (.sendM j) (n := Nm) (w := .waitDma2 (sendArr j 1) (mSlot s) (mSlot s) h₁ h₂)
    (fun Q => by rw [wpE_waitDma2_eq 𝒱₀ (c : Thread nD τ) none Set.univ, Nm_slot])
    (by rw [hn, Finset.card_singleton, Nat.one_mul]; rfl) l hl (kont := kont) (Q := Q)
  rw [hn, bigSep_singleton] at h
  subst hsl
  exact h

theorem pay_bar (c d : Dev nD) : (pay x c d .bar : sProp 𝕄) = iprop((∃ f, oPts d (slotOf c) fullShare f) ∗ (∃ f, mPts d (slotOf c) fullShare f)
    ∗ reached ER (cell d (.recvO (slotOf c))) 0 ∗ reached ER (cell d (.recvM (slotOf c))) 0) := rfl

/-! ## Entering and leaving the call -/

/-- Both slots of both scratch arrays, at any contents. -/
def scratch (c : Dev nD) : sProp 𝕄 :=
  iprop((∃ f, oPts c 0 fullShare f) ∗ (∃ f, oPts c 1 fullShare f) ∗ (∃ f, mPts c 0 fullShare f) ∗ (∃ f, mPts c 1 fullShare f))

/-- What the device holds of its own semaphores: none of its rounds over, the units promised to it. -/
def ready (c : Dev nD) : sProp 𝕄 :=
  iprop((atPos ER (cell c .bar) 0 ∅ 0 ∗ (atPos ER (cell c (.sendO 0)) 0 ∅ 0 ∗ atPos ER (cell c (.sendM 0)) 0 ∅ 0)
      ∗ (atPos ER (cell c (.sendO 1)) 0 ∅ 0 ∗ atPos ER (cell c (.sendM 1)) 0 ∅ 0) ∗ (atPos ER (cell c (.sendO 2)) 0 ∅ 0 ∗ atPos ER (cell c (.sendM 2)) 0 ∅ 0)
      ∗ (atPos ER (cell c (.recvO 0)) 0 ∅ 0 ∗ atPos ER (cell c (.recvM 0)) 0 ∅ 0) ∗ (atPos ER (cell c (.recvO 1)) 0 ∅ 0 ∗ atPos ER (cell c (.recvM 1)) 0 ∅ 0)
      ∗ atPos ER (cell c .done) 0 ∅ 0)
    ∗ (cred (tallyAt (cell c .bar) () ((payers c .bar).card * amt .bar))
      ∗ cred (tallyAt (cell c (.recvO 0)) () ((payers c (.recvO 0)).card * amt (.recvO 0))) ∗ cred (tallyAt (cell c (.recvM 0)) () ((payers c (.recvM 0)).card * amt (.recvM 0)))
      ∗ cred (tallyAt (cell c (.recvO 1)) () ((payers c (.recvO 1)).card * amt (.recvO 1))) ∗ cred (tallyAt (cell c (.recvM 1)) () ((payers c (.recvM 1)).card * amt (.recvM 1)))
      ∗ cred (tallyAt (cell c .done) () ((payers c .done).card * amt .done))))

/-- The rights of the owner of a slot to pay the send side of its copies. -/
def sendToks (c : Dev nD) : sProp 𝕄 :=
  iprop(dutyTok ER (cell c (.sendO 0)) 0 c ∗ dutyTok ER (cell c (.sendM 0)) 0 c ∗ dutyTok ER (cell c (.sendO 1)) 0 c ∗ dutyTok ER (cell c (.sendM 1)) 0 c
    ∗ dutyTok ER (cell c (.sendO 2)) 0 c ∗ dutyTok ER (cell c (.sendM 2)) 0 c)

/-- Every semaphore of the call back at zero. -/
def over (c : Dev nD) : sProp 𝕄 :=
  iprop(semVal (cell c .bar) 0 ∗ (semVal (cell c (.sendO 0)) 0 ∗ semVal (cell c (.sendM 0)) 0) ∗ (semVal (cell c (.sendO 1)) 0 ∗ semVal (cell c (.sendM 1)) 0)
    ∗ (semVal (cell c (.sendO 2)) 0 ∗ semVal (cell c (.sendM 2)) 0) ∗ (semVal (cell c (.recvO 0)) 0 ∗ semVal (cell c (.recvM 0)) 0)
    ∗ (semVal (cell c (.recvO 1)) 0 ∗ semVal (cell c (.recvM 1)) 0) ∗ semVal (cell c .done) 0)

/-- What every device leaves in its result block: the two slots merged. -/
def mRow (s t : Fin 2) (h : ∀ a, (![s.val, 0, 0, t.val, 0] : Fin 5 → ℕ) a + S1x2x4x1x128.size a ≤ S2x2x4x2x128.size a) : Vec F S1x2x4x1x128 .f32 :=
  fun i => mAll x ((Rect.unit (s := S2x2x4x2x128) ![s.val, 0, 0, t.val, 0] S1x2x4x1x128.size h).emb i)
def oRow (s : Fin 2) : Vec F S1x2x128x256 .bf16 := fun i => oAll x ((oRect s).emb i)
def res : S256x256.Idx → Elt F .f32 :=
  let v23 := k0_pay116 (mRow x 0 0 inb_S2x2x4x2x128_S1x2x4x1x128_0_0_0_0_0)
  let v25 := k0_pay117 (mRow x 1 0 inb_S2x2x4x2x128_S1x2x4x1x128_1_0_0_0_0)
  let v26 := mRow x 0 1 inb_S2x2x4x2x128_S1x2x4x1x128_0_0_0_1_0
  let v28 := mRow x 1 1 inb_S2x2x4x2x128_S1x2x4x1x128_1_0_0_1_0
  k0_pay1 (k0_pay122 v23 v25 v26 v28) (k0_pay123 v23 v25 v26 v28 (oRow x 0)) (k0_pay124 (oRow x 1)) (k0_pay125 v23 v25 v26 v28)

/-! ## Handing the semaphores back -/

/-- How many rounds a cell is waited for: none where nobody pays. -/
def rounds (c : Dev nD) (k : Kind) : ℕ := if payers c k = ∅ then 0 else 1

theorem closed (K : GSem nD τ sig → ℕ) (c : Dev nD) (k : Kind) :
    iprop(env x K c ∗ atPos ER (cell c k) (rounds c k) ∅ 0) ⊢ (|={Set.univ}=> semVal (cell c k) 0 : sProp 𝕄) := by
  unfold rounds
  split
  · exact step_close0 x K c k ‹_›
  · exact step_close x K c k

theorem close_all (K : GSem nD τ sig → ℕ) (c : Dev nD) :
    iprop(env x K c ∗ atPos ER (cell c .bar) (rounds c .bar) ∅ 0 ∗ (atPos ER (cell c (.sendO 0)) (rounds c (.sendO 0)) ∅ 0 ∗ atPos ER (cell c (.sendM 0)) (rounds c (.sendM 0)) ∅ 0) ∗ (atPos ER (cell c (.sendO 1)) (rounds c (.sendO 1)) ∅ 0 ∗ atPos ER (cell c (.sendM 1)) (rounds c (.sendM 1)) ∅ 0) ∗ (atPos ER (cell c (.sendO 2)) (rounds c (.sendO 2)) ∅ 0 ∗ atPos ER (cell c (.sendM 2)) (rounds c (.sendM 2)) ∅ 0) ∗ (atPos ER (cell c (.recvO 0)) (rounds c (.recvO 0)) ∅ 0 ∗ atPos ER (cell c (.recvM 0)) (rounds c (.recvM 0)) ∅ 0) ∗ (atPos ER (cell c (.recvO 1)) (rounds c (.recvO 1)) ∅ 0 ∗ atPos ER (cell c (.recvM 1)) (rounds c (.recvM 1)) ∅ 0) ∗ atPos ER (cell c (.done)) (rounds c (.done)) ∅ 0)
      ⊢ (|={Set.univ}=> over c : sProp 𝕄) := by
  unfold over
  iintro ⟨#He, PB, ⟨PS0, PT0⟩, ⟨PS1, PT1⟩, ⟨PS2, PT2⟩, ⟨PO0, PM0⟩, ⟨PO1, PM1⟩, PD⟩
  imod (closed x K c .bar) $$ [PB] with VB
  · isplitr; · iexact He
    iexact PB
  imod (closed x K c (.sendO 0)) $$ [PS0] with VS0
  · isplitr; · iexact He
    iexact PS0
  imod (closed x K c (.sendM 0)) $$ [PT0] with VT0
  · isplitr; · iexact He
    iexact PT0
  imod (closed x K c (.sendO 1)) $$ [PS1] with VS1
  · isplitr; · iexact He
    iexact PS1
  imod (closed x K c (.sendM 1)) $$ [PT1] with VT1
  · isplitr; · iexact He
    iexact PT1
  imod (closed x K c (.sendO 2)) $$ [PS2] with VS2
  · isplitr; · iexact He
    iexact PS2
  imod (closed x K c (.sendM 2)) $$ [PT2] with VT2
  · isplitr; · iexact He
    iexact PT2
  imod (closed x K c (.recvO 0)) $$ [PO0] with VO0
  · isplitr; · iexact He
    iexact PO0
  imod (closed x K c (.recvM 0)) $$ [PM0] with VM0
  · isplitr; · iexact He
    iexact PM0
  imod (closed x K c (.recvO 1)) $$ [PO1] with VO1
  · isplitr; · iexact He
    iexact PO1
  imod (closed x K c (.recvM 1)) $$ [PM1] with VM1
  · isplitr; · iexact He
    iexact PM1
  imod (closed x K c (.done)) $$ [PD] with VD
  · isplitr; · iexact He
    iexact PD
  imodintro
  isplitl [VB]; · iexact VB
  isplitl [VS0 VT0]
  · isplitl [VS0]; · iexact VS0
    iexact VT0
  isplitl [VS1 VT1]
  · isplitl [VS1]; · iexact VS1
    iexact VT1
  isplitl [VS2 VT2]
  · isplitl [VS2]; · iexact VS2
    iexact VT2
  isplitl [VO0 VM0]
  · isplitl [VO0]; · iexact VO0
    iexact VM0
  isplitl [VO1 VM1]
  · isplitl [VO1]; · iexact VO1
    iexact VM1
  iexact VD

/-- A block stored whole. -/
theorem owns_stored (c : Dev nD) {sp : Space} (M : Memref sig .tc sp S256x256 .f32) (f : M.view.ty.Contents (Elt F)) (w : S256x256.Idx → Elt F .f32) :
    (M.view.loc (c : Thread nD τ) ↦[M.view.set]{fullShare} M.view.writes (Elt F) f [⟨Rect.unit ![0, 0] S256x256.size inb_S256x256_S256x256_0_0, w⟩] : sProp 𝕄)
      ⊢ owns (c : Thread nD τ) M fullShare w := by
  iintro H
  unfold owns
  iexists _
  isplitr
  · ipureintro
    exact View.read_writes_full M.view f inb_S256x256_S256x256_0_0 w []
  · iexact H

end Cert.KernelIdeal.Talk

end
-- ==== Proof.KI.Body0.lean ====
/- The call on device 0, which computes slot 0. -/
module

public import proofs.«01_k».proof.Proof.KI.Start
public import Idealize.ShloMosaic.Lib.Tactic
public import Idealize.ShloMosaic.Lib.Pipeline.TableIdle

@[expose] public section

noncomputable section

namespace Cert.KernelIdeal.Talk

open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F] [Named F]

local notation "𝕄" => MT nD τ sig Unit (Elt F) ℕ UU ℕ

variable (x : Inp F)

abbrev dev0 : Dev nD := (0 : Fin 4)
abbrev dev1 : Dev nD := (1 : Fin 4)
abbrev dev2 : Dev nD := (2 : Fin 4)
abbrev dev3 : Dev nD := (3 : Fin 4)

/-- The units device 0's copies pay elsewhere. -/
abbrev copies0 : List (Dev nD × Kind) := [(dev1, .recvO 0), (dev1, .recvM 0), (dev2, .recvO 0), (dev2, .recvM 0), (dev3, .recvO 0), (dev3, .recvM 0)]

/-- What the units on device 0's barrier semaphore bring: slot 0 of every other device. -/
theorem pays_0 : (bigSep (payers dev0 .bar) fun d => pay x dev0 d .bar : sProp 𝕄)
    = iprop(((∃ f, oPts dev1 0 fullShare f) ∗ (∃ f, mPts dev1 0 fullShare f) ∗ reached ER (cell dev1 (.recvO 0)) 0 ∗ reached ER (cell dev1 (.recvM 0)) 0)
      ∗ ((∃ f, oPts dev2 0 fullShare f) ∗ (∃ f, mPts dev2 0 fullShare f) ∗ reached ER (cell dev2 (.recvO 0)) 0 ∗ reached ER (cell dev2 (.recvM 0)) 0)
      ∗ (∃ f, oPts dev3 0 fullShare f) ∗ (∃ f, mPts dev3 0 fullShare f) ∗ reached ER (cell dev3 (.recvO 0)) 0 ∗ reached ER (cell dev3 (.recvM 0)) 0) :=
  bigSep_eq_bigSepL_of_eq [dev1, dev2, dev3] (by decide) (by decide) _

set_option maxHeartbeats 4000000 in
set_option maxRecDepth 65536 in
theorem body_0 (K : GSem nD τ sig → ℕ) (arg0 : Memref sig .tc .vmem S256x256 .f32) (harg0 : arg0.IsWhole)
    (arg1 : Memref sig .tc .vmem S2x4x64x128 .f32) (harg1 : arg1.IsWhole) (arg2 : Memref sig .tc .vmem S2x4x64x128 .f32) (harg2 : arg2.IsWhole)
    (arg3 : Memref sig .tc .vmem S256x256 .f32) (harg3 : arg3.IsWhole) (d : S256x256.Idx → Elt F .f32) :
    iprop(env x K dev0 ∗ ready (F := F) dev0 ∗ sendToks dev0 ∗ account dev0 (debts dev0) ∗ scratch dev0
        ∗ owns (dev0 : Thread nD τ) arg0 fullShare (x.q dev0) ∗ owns (dev0 : Thread nD τ) arg1 fullShare (x.kt dev0)
        ∗ owns (dev0 : Thread nD τ) arg2 fullShare (x.vt dev0) ∗ owns (dev0 : Thread nD τ) arg3 fullShare d)
      ⊢ wp frame (wpE (defs₀ (F := F)) 𝒱₀ dev0 none) Set.univ
          (cc0_body arg0 harg0 arg1 harg1 arg2 harg2 arg3 harg3 oM (Memref.isWhole_whole _) mM (Memref.isWhole_whole _) cc0_scratch2 cc0_scratch3 cc0_scratch4)
          fun _ => iprop(over (F := F) dev0 ∗ account dev0 [] ∗ scratch dev0
            ∗ owns (dev0 : Thread nD τ) arg0 fullShare (x.q dev0) ∗ owns (dev0 : Thread nD τ) arg1 fullShare (x.kt dev0)
            ∗ owns (dev0 : Thread nD τ) arg2 fullShare (x.vt dev0) ∗ owns (dev0 : Thread nD τ) arg3 fullShare (res x)) := by
  unfold scratch ready sendToks
  rw [owns_eq_rep, owns_eq_rep, owns_eq_rep, owns_eq_rep]
  rw [show debts dev0 = (dev2, .bar) :: copies0 from rfl]
  iintro ⟨#He, ⟨⟨PB, ⟨PS0, PT0⟩, ⟨PS1, PT1⟩, ⟨PS2, PT2⟩, ⟨PO0, PM0⟩, ⟨PO1, PM1⟩, PD⟩, CB, CO0, CM0, CO1, CM1, CD⟩, ⟨TS0, TT0, TS1, TT1, TS2, TT2⟩, HA, ⟨⟨%fo, Ho⟩, Ho1, ⟨%fm, Hm⟩, Hm1⟩, H0, H1, H2, H3⟩
  ihave Ho := (Entails.of_eq (oPts_eq dev0 0 fullShare fo)) $$ Ho
  ihave Hm := (Entails.of_eq (mPts_eq dev0 0 fullShare fm)) $$ Hm
  sl_exec (disch := decide)
  ihave #Rb := (env_bar x K dev0 dev2) $$ He
  ihave #RO1 := (env_own x K dev0 (.recvO 1)) $$ He
  ihave #RM1 := (env_own x K dev0 (.recvM 1)) $$ He
  iapply (step_bar x K dev0 dev2 (by decide) copies0) $$ [HA Ho1 Hm1]
  · isplitr; · iexact He
    isplitl [HA]; · iexact HA
    isplitl [Ho1 Hm1]
    · rw [pay_bar]
      isplitl [Ho1]; · iexact Ho1
      isplitl [Hm1]; · iexact Hm1
      isplitr; · iexact RO1
      iexact RM1
    · iexact Rb
  iintro HA
  sl_exec (disch := decide)
  iapply (wait_bar x K dev0 (by decide) copies0 (by decide)) $$ [CB HA PB]
  · isplitr; · iexact He
    isplitl [CB]; · iexact CB
    isplitl [HA]; · iexact HA
    iexact PB
  iintro ⟨HA, PB, Hpay⟩
  ihave Hpay := (Entails.of_eq (pays_0 x)) $$ Hpay
  icases Hpay with ⟨⟨X1, Y1, #RX1, #RY1⟩, ⟨X2, Y2, #RX2, #RY2⟩, X3, Y3, #RX3, #RY3⟩
  sl_exec (disch := decide)
  ihave Ho := (Entails.of_eq (oFilled x dev0 0 fo _ ?oEq)) $$ Ho
  case oEq => delta body_0.sl.r body_0.sl.v193 body_0.sl.v206 body_0.sl.v221 body_0.sl.v234 body_0.sl.v249 body_0.sl.v262 body_0.sl.v277 body_0.sl.v290 body_0.sl.v305 body_0.sl.v318 body_0.sl.v333 body_0.sl.v346 body_0.sl.v361 body_0.sl.v374 body_0.sl.v389 body_0.sl.v402; simp only [View.readAt_rep]; rfl
  ihave Hm := (Entails.of_eq (mFilled x dev0 0 fm _ ?mEq)) $$ Hm
  case mEq => delta body_0.sl.r_1 body_0.sl.r_2 body_0.sl.r_3 body_0.sl.r_4 body_0.sl.v414; delta body_0.sl.r_5; delta body_0.sl.r body_0.sl.v193 body_0.sl.v206 body_0.sl.v221 body_0.sl.v234 body_0.sl.v249 body_0.sl.v262 body_0.sl.v277 body_0.sl.v290 body_0.sl.v305 body_0.sl.v318 body_0.sl.v333 body_0.sl.v346 body_0.sl.v361 body_0.sl.v374 body_0.sl.v389 body_0.sl.v402; simp only [View.readAt_rep]; rfl
  ihave Ho := shares.1 $$ Ho
  ihave Hm := shares.1 $$ Hm
  icases Ho with ⟨Ho, Ho0, Ho1, Ho2⟩
  icases Hm with ⟨Hm, Hm0, Hm1, Hm2⟩
  iapply (step_copyO x K dev0 dev1 0 0 rfl rfl (by decide) (by decide) [(dev1, .recvM 0), (dev2, .recvO 0), (dev2, .recvM 0), (dev3, .recvO 0), (dev3, .recvM 0)]) $$ [Ho0 X1 HA TS0]
  · isplitr; · iexact He
    isplitl [Ho0]; · iexact Ho0
    isplitl [X1]; · iexact X1
    isplitr; · iexact RX1
    isplitl [HA]; · iexact HA
    iexact TS0
  iintro ⟨CS0, HA⟩
  sl_exec (disch := decide)
  iapply (step_copyM x K dev0 dev1 0 0 rfl (by decide) (by decide) [(dev2, .recvO 0), (dev2, .recvM 0), (dev3, .recvO 0), (dev3, .recvM 0)]) $$ [Hm0 Y1 HA TT0]
  · isplitr; · iexact He
    isplitl [Hm0]; · iexact Hm0
    isplitl [Y1]; · iexact Y1
    isplitr; · iexact RY1
    isplitl [HA]; · iexact HA
    iexact TT0
  iintro ⟨CT0, HA⟩
  sl_exec (disch := decide)
  iapply (step_copyO x K dev0 dev2 0 1 rfl rfl (by decide) (by decide) [(dev2, .recvM 0), (dev3, .recvO 0), (dev3, .recvM 0)]) $$ [Ho1 X2 HA TS1]
  · isplitr; · iexact He
    isplitl [Ho1]; · iexact Ho1
    isplitl [X2]; · iexact X2
    isplitr; · iexact RX2
    isplitl [HA]; · iexact HA
    iexact TS1
  iintro ⟨CS1, HA⟩
  sl_exec (disch := decide)
  iapply (step_copyM x K dev0 dev2 0 1 rfl (by decide) (by decide) [(dev3, .recvO 0), (dev3, .recvM 0)]) $$ [Hm1 Y2 HA TT1]
  · isplitr; · iexact He
    isplitl [Hm1]; · iexact Hm1
    isplitl [Y2]; · iexact Y2
    isplitr; · iexact RY2
    isplitl [HA]; · iexact HA
    iexact TT1
  iintro ⟨CT1, HA⟩
  sl_exec (disch := decide)
  iapply (step_copyO x K dev0 dev3 0 2 rfl rfl (by decide) (by decide) [(dev3, .recvM 0)]) $$ [Ho2 X3 HA TS2]
  · isplitr; · iexact He
    isplitl [Ho2]; · iexact Ho2
    isplitl [X3]; · iexact X3
    isplitr; · iexact RX3
    isplitl [HA]; · iexact HA
    iexact TS2
  iintro ⟨CS2, HA⟩
  sl_exec (disch := decide)
  iapply (step_copyM x K dev0 dev3 0 2 rfl (by decide) (by decide) []) $$ [Hm2 Y3 HA TT2]
  · isplitr; · iexact He
    isplitl [Hm2]; · iexact Hm2
    isplitl [Y3]; · iexact Y3
    isplitr; · iexact RY3
    isplitl [HA]; · iexact HA
    iexact TT2
  iintro ⟨CT2, HA⟩
  sl_exec (disch := decide)
  iapply (wait_recvO x K dev0 1 (by decide) [] (by decide)) $$ [CO1 HA PO1]
  · isplitr; · iexact He
    isplitl [CO1]; · iexact CO1
    isplitl [HA]; · iexact HA
    iexact PO1
  iintro ⟨HA, PO1, Ho1, -⟩
  sl_exec (disch := decide)
  iapply (wait_recvM x K dev0 1 (by decide) [] (by decide)) $$ [CM1 HA PM1]
  · isplitr; · iexact He
    isplitl [CM1]; · iexact CM1
    isplitl [HA]; · iexact HA
    iexact PM1
  iintro ⟨HA, PM1, Hm1⟩
  sl_exec (disch := decide)
  iapply (wait_sendO x K dev0 0 0 rfl (by decide) [] (by decide)) $$ [CS0 HA PS0]
  · isplitr; · iexact He
    isplitl [CS0]; · iexact CS0
    isplitl [HA]; · iexact HA
    iexact PS0
  iintro ⟨HA, PS0, Ho_0⟩
  sl_exec (disch := decide)
  iapply (wait_sendM x K dev0 0 0 rfl (by decide) [] (by decide)) $$ [CT0 HA PT0]
  · isplitr; · iexact He
    isplitl [CT0]; · iexact CT0
    isplitl [HA]; · iexact HA
    iexact PT0
  iintro ⟨HA, PT0, Hm_0⟩
  sl_exec (disch := decide)
  iapply (wait_sendO x K dev0 0 1 rfl (by decide) [] (by decide)) $$ [CS1 HA PS1]
  · isplitr; · iexact He
    isplitl [CS1]; · iexact CS1
    isplitl [HA]; · iexact HA
    iexact PS1
  iintro ⟨HA, PS1, Ho_1⟩
  sl_exec (disch := decide)
  iapply (wait_sendM x K dev0 0 1 rfl (by decide) [] (by decide)) $$ [CT1 HA PT1]
  · isplitr; · iexact He
    isplitl [CT1]; · iexact CT1
    isplitl [HA]; · iexact HA
    iexact PT1
  iintro ⟨HA, PT1, Hm_1⟩
  sl_exec (disch := decide)
  iapply (wait_sendO x K dev0 0 2 rfl (by decide) [] (by decide)) $$ [CS2 HA PS2]
  · isplitr; · iexact He
    isplitl [CS2]; · iexact CS2
    isplitl [HA]; · iexact HA
    iexact PS2
  iintro ⟨HA, PS2, Ho_2⟩
  sl_exec (disch := decide)
  iapply (wait_sendM x K dev0 0 2 rfl (by decide) [] (by decide)) $$ [CT2 HA PT2]
  · isplitr; · iexact He
    isplitl [CT2]; · iexact CT2
    isplitl [HA]; · iexact HA
    iexact PT2
  iintro ⟨HA, PT2, Hm_2⟩
  sl_exec (disch := decide)
  iapply (wait_done x K dev0 (by decide) [] (by decide)) $$ [CD HA PD]
  · isplitr; · iexact He
    isplitl [CD]; · iexact CD
    isplitl [HA]; · iexact HA
    iexact PD
  iintro ⟨HA, PD, -⟩
  sl_exec (disch := decide)
  rw [wp_ret]
  imod (close_all x K dev0) $$ [PB PS0 PT0 PS1 PT1 PS2 PT2 PO0 PM0 PO1 PM1 PD] with HV
  · isplitr; · iexact He
    isplitl [PB]; · iexact PB
    isplitl [PS0 PT0]
    · isplitl [PS0]; · iexact PS0
      iexact PT0
    isplitl [PS1 PT1]
    · isplitl [PS1]; · iexact PS1
      iexact PT1
    isplitl [PS2 PT2]
    · isplitl [PS2]; · iexact PS2
      iexact PT2
    isplitl [PO0 PM0]
    · isplitl [PO0]; · iexact PO0
      iexact PM0
    isplitl [PO1 PM1]
    · isplitl [PO1]; · iexact PO1
      iexact PM1
    iexact PD
  ihave H3 := (owns_stored dev0 arg3 _ _) $$ H3
  imodintro
  isplitl [HV]; · iexact HV
  isplitl [HA]; · iexact HA
  isplitl [Ho Ho_0 Ho_1 Ho_2 Ho1 Hm Hm_0 Hm_1 Hm_2 Hm1]
  · isplitl [Ho Ho_0 Ho_1 Ho_2]
    · iexists oAll x
      iapply shares.2
      isplitl [Ho]; · iexact Ho
      isplitl [Ho_0]; · iexact Ho_0
      isplitl [Ho_1]; · iexact Ho_1
      iexact Ho_2
    isplitl [Ho1]; · iexists oAll x; iexact Ho1
    isplitl [Hm Hm_0 Hm_1 Hm_2]
    · iexists mAll x
      iapply shares.2
      isplitl [Hm]; · iexact Hm
      isplitl [Hm_0]; · iexact Hm_0
      isplitl [Hm_1]; · iexact Hm_1
      iexact Hm_2
    iexists mAll x; iexact Hm1
  isplitl [H0]; · iexact H0
  isplitl [H1]; · iexact H1
  isplitl [H2]; · iexact H2
  iexact H3

end Cert.KernelIdeal.Talk

end
-- ==== Proof.KI.Body2.lean ====
/- The call on device 2, which computes slot 1. -/
module

public import proofs.«01_k».proof.Proof.KI.Body0
public import Idealize.ShloMosaic.Lib.Tactic
public import Idealize.ShloMosaic.Lib.Pipeline.TableIdle

@[expose] public section

noncomputable section

namespace Cert.KernelIdeal.Talk

open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F] [Named F]

local notation "𝕄" => MT nD τ sig Unit (Elt F) ℕ UU ℕ

variable (x : Inp F)

/-- The units device 2's copies pay elsewhere. -/
abbrev copies2 : List (Dev nD × Kind) := [(dev3, .recvO 1), (dev3, .recvM 1), (dev0, .recvO 1), (dev0, .recvM 1), (dev1, .recvO 1), (dev1, .recvM 1)]

/-- What the units on device 2's barrier semaphore bring: slot 1 of every other device. -/
theorem pays_2 : (bigSep (payers dev2 .bar) fun d => pay x dev2 d .bar : sProp 𝕄)
    = iprop(((∃ f, oPts dev3 1 fullShare f) ∗ (∃ f, mPts dev3 1 fullShare f) ∗ reached ER (cell dev3 (.recvO 1)) 0 ∗ reached ER (cell dev3 (.recvM 1)) 0)
      ∗ ((∃ f, oPts dev0 1 fullShare f) ∗ (∃ f, mPts dev0 1 fullShare f) ∗ reached ER (cell dev0 (.recvO 1)) 0 ∗ reached ER (cell dev0 (.recvM 1)) 0)
      ∗ (∃ f, oPts dev1 1 fullShare f) ∗ (∃ f, mPts dev1 1 fullShare f) ∗ reached ER (cell dev1 (.recvO 1)) 0 ∗ reached ER (cell dev1 (.recvM 1)) 0) :=
  bigSep_eq_bigSepL_of_eq [dev3, dev0, dev1] (by decide) (by decide) _

set_option maxHeartbeats 4000000 in
set_option maxRecDepth 65536 in
theorem body_2 (K : GSem nD τ sig → ℕ) (arg0 : Memref sig .tc .vmem S256x256 .f32) (harg0 : arg0.IsWhole)
    (arg1 : Memref sig .tc .vmem S2x4x64x128 .f32) (harg1 : arg1.IsWhole) (arg2 : Memref sig .tc .vmem S2x4x64x128 .f32) (harg2 : arg2.IsWhole)
    (arg3 : Memref sig .tc .vmem S256x256 .f32) (harg3 : arg3.IsWhole) (d : S256x256.Idx → Elt F .f32) :
    iprop(env x K dev2 ∗ ready (F := F) dev2 ∗ sendToks dev2 ∗ account dev2 (debts dev2) ∗ scratch dev2
        ∗ owns (dev2 : Thread nD τ) arg0 fullShare (x.q dev2) ∗ owns (dev2 : Thread nD τ) arg1 fullShare (x.kt dev2)
        ∗ owns (dev2 : Thread nD τ) arg2 fullShare (x.vt dev2) ∗ owns (dev2 : Thread nD τ) arg3 fullShare d)
      ⊢ wp frame (wpE (defs₀ (F := F)) 𝒱₀ dev2 none) Set.univ
          (cc0_body arg0 harg0 arg1 harg1 arg2 harg2 arg3 harg3 oM (Memref.isWhole_whole _) mM (Memref.isWhole_whole _) cc0_scratch2 cc0_scratch3 cc0_scratch4)
          fun _ => iprop(over (F := F) dev2 ∗ account dev2 [] ∗ scratch dev2
            ∗ owns (dev2 : Thread nD τ) arg0 fullShare (x.q dev2) ∗ owns (dev2 : Thread nD τ) arg1 fullShare (x.kt dev2)
            ∗ owns (dev2 : Thread nD τ) arg2 fullShare (x.vt dev2) ∗ owns (dev2 : Thread nD τ) arg3 fullShare (res x)) := by
  unfold scratch ready sendToks
  rw [owns_eq_rep, owns_eq_rep, owns_eq_rep, owns_eq_rep]
  rw [show debts dev2 = (dev0, .bar) :: copies2 from rfl]
  iintro ⟨#He, ⟨⟨PB, ⟨PS0, PT0⟩, ⟨PS1, PT1⟩, ⟨PS2, PT2⟩, ⟨PO0, PM0⟩, ⟨PO1, PM1⟩, PD⟩, CB, CO0, CM0, CO1, CM1, CD⟩, ⟨TS0, TT0, TS1, TT1, TS2, TT2⟩, HA, ⟨Ho1, ⟨%fo, Ho⟩, Hm1, ⟨%fm, Hm⟩⟩, H0, H1, H2, H3⟩
  ihave Ho := (Entails.of_eq (oPts_eq dev2 1 fullShare fo)) $$ Ho
  ihave Hm := (Entails.of_eq (mPts_eq dev2 1 fullShare fm)) $$ Hm
  sl_exec (disch := decide)
  ihave #Rb := (env_bar x K dev2 dev0) $$ He
  ihave #RO1 := (env_own x K dev2 (.recvO 0)) $$ He
  ihave #RM1 := (env_own x K dev2 (.recvM 0)) $$ He
  iapply (step_bar x K dev2 dev0 (by decide) copies2) $$ [HA Ho1 Hm1]
  · isplitr; · iexact He
    isplitl [HA]; · iexact HA
    isplitl [Ho1 Hm1]
    · rw [pay_bar]
      isplitl [Ho1]; · iexact Ho1
      isplitl [Hm1]; · iexact Hm1
      isplitr; · iexact RO1
      iexact RM1
    · iexact Rb
  iintro HA
  sl_exec (disch := decide)
  iapply (wait_bar x K dev2 (by decide) copies2 (by decide)) $$ [CB HA PB]
  · isplitr; · iexact He
    isplitl [CB]; · iexact CB
    isplitl [HA]; · iexact HA
    iexact PB
  iintro ⟨HA, PB, Hpay⟩
  ihave Hpay := (Entails.of_eq (pays_2 x)) $$ Hpay
  icases Hpay with ⟨⟨X1, Y1, #RX1, #RY1⟩, ⟨X2, Y2, #RX2, #RY2⟩, X3, Y3, #RX3, #RY3⟩
  sl_exec (disch := decide)
  ihave Ho := (Entails.of_eq (oFilled x dev2 1 fo _ ?oEq)) $$ Ho
  case oEq => delta body_2.sl.r body_2.sl.v193 body_2.sl.v206 body_2.sl.v221 body_2.sl.v234 body_2.sl.v249 body_2.sl.v262 body_2.sl.v277 body_2.sl.v290 body_2.sl.v305 body_2.sl.v318 body_2.sl.v333 body_2.sl.v346 body_2.sl.v361 body_2.sl.v374 body_2.sl.v389 body_2.sl.v402; simp only [View.readAt_rep]; rfl
  ihave Hm := (Entails.of_eq (mFilled x dev2 1 fm _ ?mEq)) $$ Hm
  case mEq => delta body_2.sl.r_1 body_2.sl.r_2 body_2.sl.r_3 body_2.sl.r_4 body_2.sl.v414; delta body_2.sl.r_5; delta body_2.sl.r body_2.sl.v193 body_2.sl.v206 body_2.sl.v221 body_2.sl.v234 body_2.sl.v249 body_2.sl.v262 body_2.sl.v277 body_2.sl.v290 body_2.sl.v305 body_2.sl.v318 body_2.sl.v333 body_2.sl.v346 body_2.sl.v361 body_2.sl.v374 body_2.sl.v389 body_2.sl.v402; simp only [View.readAt_rep]; rfl
  ihave Ho := shares.1 $$ Ho
  ihave Hm := shares.1 $$ Hm
  icases Ho with ⟨Ho, Ho0, Ho1, Ho2⟩
  icases Hm with ⟨Hm, Hm0, Hm1, Hm2⟩
  iapply (step_copyO x K dev2 dev3 1 0 rfl rfl (by decide) (by decide) [(dev3, .recvM 1), (dev0, .recvO 1), (dev0, .recvM 1), (dev1, .recvO 1), (dev1, .recvM 1)]) $$ [Ho0 X1 HA TS0]
  · isplitr; · iexact He
    isplitl [Ho0]; · iexact Ho0
    isplitl [X1]; · iexact X1
    isplitr; · iexact RX1
    isplitl [HA]; · iexact HA
    iexact TS0
  iintro ⟨CS0, HA⟩
  sl_exec (disch := decide)
  iapply (step_copyM x K dev2 dev3 1 0 rfl (by decide) (by decide) [(dev0, .recvO 1), (dev0, .recvM 1), (dev1, .recvO 1), (dev1, .recvM 1)]) $$ [Hm0 Y1 HA TT0]
  · isplitr; · iexact He
    isplitl [Hm0]; · iexact Hm0
    isplitl [Y1]; · iexact Y1
    isplitr; · iexact RY1
    isplitl [HA]; · iexact HA
    iexact TT0
  iintro ⟨CT0, HA⟩
  sl_exec (disch := decide)
  iapply (step_copyO x K dev2 dev0 1 1 rfl rfl (by decide) (by decide) [(dev0, .recvM 1), (dev1, .recvO 1), (dev1, .recvM 1)]) $$ [Ho1 X2 HA TS1]
  · isplitr; · iexact He
    isplitl [Ho1]; · iexact Ho1
    isplitl [X2]; · iexact X2
    isplitr; · iexact RX2
    isplitl [HA]; · iexact HA
    iexact TS1
  iintro ⟨CS1, HA⟩
  sl_exec (disch := decide)
  iapply (step_copyM x K dev2 dev0 1 1 rfl (by decide) (by decide) [(dev1, .recvO 1), (dev1, .recvM 1)]) $$ [Hm1 Y2 HA TT1]
  · isplitr; · iexact He
    isplitl [Hm1]; · iexact Hm1
    isplitl [Y2]; · iexact Y2
    isplitr; · iexact RY2
    isplitl [HA]; · iexact HA
    iexact TT1
  iintro ⟨CT1, HA⟩
  sl_exec (disch := decide)
  iapply (step_copyO x K dev2 dev1 1 2 rfl rfl (by decide) (by decide) [(dev1, .recvM 1)]) $$ [Ho2 X3 HA TS2]
  · isplitr; · iexact He
    isplitl [Ho2]; · iexact Ho2
    isplitl [X3]; · iexact X3
    isplitr; · iexact RX3
    isplitl [HA]; · iexact HA
    iexact TS2
  iintro ⟨CS2, HA⟩
  sl_exec (disch := decide)
  iapply (step_copyM x K dev2 dev1 1 2 rfl (by decide) (by decide) []) $$ [Hm2 Y3 HA TT2]
  · isplitr; · iexact He
    isplitl [Hm2]; · iexact Hm2
    isplitl [Y3]; · iexact Y3
    isplitr; · iexact RY3
    isplitl [HA]; · iexact HA
    iexact TT2
  iintro ⟨CT2, HA⟩
  sl_exec (disch := decide)
  iapply (wait_recvO x K dev2 0 (by decide) [] (by decide)) $$ [CO0 HA PO0]
  · isplitr; · iexact He
    isplitl [CO0]; · iexact CO0
    isplitl [HA]; · iexact HA
    iexact PO0
  iintro ⟨HA, PO0, Ho1, -⟩
  sl_exec (disch := decide)
  iapply (wait_recvM x K dev2 0 (by decide) [] (by decide)) $$ [CM0 HA PM0]
  · isplitr; · iexact He
    isplitl [CM0]; · iexact CM0
    isplitl [HA]; · iexact HA
    iexact PM0
  iintro ⟨HA, PM0, Hm1⟩
  sl_exec (disch := decide)
  iapply (wait_sendO x K dev2 1 0 rfl (by decide) [] (by decide)) $$ [CS0 HA PS0]
  · isplitr; · iexact He
    isplitl [CS0]; · iexact CS0
    isplitl [HA]; · iexact HA
    iexact PS0
  iintro ⟨HA, PS0, Ho_0⟩
  sl_exec (disch := decide)
  iapply (wait_sendM x K dev2 1 0 rfl (by decide) [] (by decide)) $$ [CT0 HA PT0]
  · isplitr; · iexact He
    isplitl [CT0]; · iexact CT0
    isplitl [HA]; · iexact HA
    iexact PT0
  iintro ⟨HA, PT0, Hm_0⟩
  sl_exec (disch := decide)
  iapply (wait_sendO x K dev2 1 1 rfl (by decide) [] (by decide)) $$ [CS1 HA PS1]
  · isplitr; · iexact He
    isplitl [CS1]; · iexact CS1
    isplitl [HA]; · iexact HA
    iexact PS1
  iintro ⟨HA, PS1, Ho_1⟩
  sl_exec (disch := decide)
  iapply (wait_sendM x K dev2 1 1 rfl (by decide) [] (by decide)) $$ [CT1 HA PT1]
  · isplitr; · iexact He
    isplitl [CT1]; · iexact CT1
    isplitl [HA]; · iexact HA
    iexact PT1
  iintro ⟨HA, PT1, Hm_1⟩
  sl_exec (disch := decide)
  iapply (wait_sendO x K dev2 1 2 rfl (by decide) [] (by decide)) $$ [CS2 HA PS2]
  · isplitr; · iexact He
    isplitl [CS2]; · iexact CS2
    isplitl [HA]; · iexact HA
    iexact PS2
  iintro ⟨HA, PS2, Ho_2⟩
  sl_exec (disch := decide)
  iapply (wait_sendM x K dev2 1 2 rfl (by decide) [] (by decide)) $$ [CT2 HA PT2]
  · isplitr; · iexact He
    isplitl [CT2]; · iexact CT2
    isplitl [HA]; · iexact HA
    iexact PT2
  iintro ⟨HA, PT2, Hm_2⟩
  sl_exec (disch := decide)
  iapply (wait_done x K dev2 (by decide) [] (by decide)) $$ [CD HA PD]
  · isplitr; · iexact He
    isplitl [CD]; · iexact CD
    isplitl [HA]; · iexact HA
    iexact PD
  iintro ⟨HA, PD, -⟩
  sl_exec (disch := decide)
  rw [wp_ret]
  imod (close_all x K dev2) $$ [PB PS0 PT0 PS1 PT1 PS2 PT2 PO0 PM0 PO1 PM1 PD] with HV
  · isplitr; · iexact He
    isplitl [PB]; · iexact PB
    isplitl [PS0 PT0]
    · isplitl [PS0]; · iexact PS0
      iexact PT0
    isplitl [PS1 PT1]
    · isplitl [PS1]; · iexact PS1
      iexact PT1
    isplitl [PS2 PT2]
    · isplitl [PS2]; · iexact PS2
      iexact PT2
    isplitl [PO0 PM0]
    · isplitl [PO0]; · iexact PO0
      iexact PM0
    isplitl [PO1 PM1]
    · isplitl [PO1]; · iexact PO1
      iexact PM1
    iexact PD
  ihave H3 := (owns_stored dev2 arg3 _ _) $$ H3
  imodintro
  isplitl [HV]; · iexact HV
  isplitl [HA]; · iexact HA
  isplitl [Ho Ho_0 Ho_1 Ho_2 Ho1 Hm Hm_0 Hm_1 Hm_2 Hm1]
  · isplitl [Ho1]; · iexists oAll x; iexact Ho1
    isplitl [Ho Ho_0 Ho_1 Ho_2]
    · iexists oAll x
      iapply shares.2
      isplitl [Ho]; · iexact Ho
      isplitl [Ho_0]; · iexact Ho_0
      isplitl [Ho_1]; · iexact Ho_1
      iexact Ho_2
    isplitl [Hm1]; · iexists mAll x; iexact Hm1
    iexists mAll x
    iapply shares.2
    isplitl [Hm]; · iexact Hm
    isplitl [Hm_0]; · iexact Hm_0
    isplitl [Hm_1]; · iexact Hm_1
    iexact Hm_2
  isplitl [H0]; · iexact H0
  isplitl [H1]; · iexact H1
  isplitl [H2]; · iexact H2
  iexact H3

end Cert.KernelIdeal.Talk

end
-- ==== Proof.KI.BodyOdd.lean ====
/- The call on the devices that compute nothing, 1 and 3, and on every device. -/
module

public import proofs.«01_k».proof.Proof.KI.Body2
public import Idealize.ShloMosaic.Lib.Tactic
public import Idealize.ShloMosaic.Lib.Pipeline.TableIdle

@[expose] public section

noncomputable section

namespace Cert.KernelIdeal.Talk

open Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal Cert.KernelIdeal.Gen

variable {F : FTy → Type} [FloatOps F] [Named F]

local notation "𝕄" => MT nD τ sig Unit (Elt F) ℕ UU ℕ

variable (x : Inp F)

set_option maxHeartbeats 4000000 in
set_option maxRecDepth 65536 in
theorem body_odd (K : GSem nD τ sig → ℕ) (arg0 : Memref sig .tc .vmem S256x256 .f32) (harg0 : arg0.IsWhole)
    (arg1 : Memref sig .tc .vmem S2x4x64x128 .f32) (harg1 : arg1.IsWhole) (arg2 : Memref sig .tc .vmem S2x4x64x128 .f32) (harg2 : arg2.IsWhole)
    (arg3 : Memref sig .tc .vmem S256x256 .f32) (harg3 : arg3.IsWhole) (c : Dev nD) (hc : c = dev1 ∨ c = dev3) (d : S256x256.Idx → Elt F .f32) :
    iprop(env x K c ∗ ready (F := F) c ∗ account c (debts c) ∗ scratch c
        ∗ owns (c : Thread nD τ) arg0 fullShare (x.q c) ∗ owns (c : Thread nD τ) arg1 fullShare (x.kt c)
        ∗ owns (c : Thread nD τ) arg2 fullShare (x.vt c) ∗ owns (c : Thread nD τ) arg3 fullShare d)
      ⊢ wp frame (wpE (defs₀ (F := F)) 𝒱₀ c none) Set.univ
          (cc0_body arg0 harg0 arg1 harg1 arg2 harg2 arg3 harg3 oM (Memref.isWhole_whole _) mM (Memref.isWhole_whole _) cc0_scratch2 cc0_scratch3 cc0_scratch4)
          fun _ => iprop(over (F := F) c ∗ account c [] ∗ scratch c
            ∗ owns (c : Thread nD τ) arg0 fullShare (x.q c) ∗ owns (c : Thread nD τ) arg1 fullShare (x.kt c)
            ∗ owns (c : Thread nD τ) arg2 fullShare (x.vt c) ∗ owns (c : Thread nD τ) arg3 fullShare (res x)) := by
  unfold scratch ready
  rw [owns_eq_rep, owns_eq_rep, owns_eq_rep, owns_eq_rep]
  rcases hc with rfl | rfl
  all_goals
    iintro ⟨#He, ⟨⟨PB, ⟨PS0, PT0⟩, ⟨PS1, PT1⟩, ⟨PS2, PT2⟩, ⟨PO0, PM0⟩, ⟨PO1, PM1⟩, PD⟩, CB, CO0, CM0, CO1, CM1, CD⟩, HA, ⟨Ho0, Ho1, Hm0, Hm1⟩, H0, H1, H2, H3⟩
    ihave #Rb0 := (env_bar x K _ dev0) $$ He
    ihave #Rb2 := (env_bar x K _ dev2) $$ He
    ihave #RO0 := (env_own x K _ (.recvO 0)) $$ He
    ihave #RM0 := (env_own x K _ (.recvM 0)) $$ He
    ihave #RO1 := (env_own x K _ (.recvO 1)) $$ He
    ihave #RM1 := (env_own x K _ (.recvM 1)) $$ He
    sl_exec (disch := decide)
    iapply (step_bar x K _ dev0 (by decide) [(dev2, .bar), (dev0, .done), (dev2, .done)]) $$ [HA Ho0 Hm0]
    · isplitr; · iexact He
      isplitl [HA]; · iexact HA
      isplitl [Ho0 Hm0]
      · rw [pay_bar]
        isplitl [Ho0]; · iexact Ho0
        isplitl [Hm0]; · iexact Hm0
        isplitr; · iexact RO0
        iexact RM0
      · iexact Rb0
    iintro HA
    sl_exec (disch := decide)
    iapply (step_bar x K _ dev2 (by decide) [(dev0, .done), (dev2, .done)]) $$ [HA Ho1 Hm1]
    · isplitr; · iexact He
      isplitl [HA]; · iexact HA
      isplitl [Ho1 Hm1]
      · rw [pay_bar]
        isplitl [Ho1]; · iexact Ho1
        isplitl [Hm1]; · iexact Hm1
        isplitr; · iexact RO1
        iexact RM1
      · iexact Rb2
    iintro HA
    sl_exec (disch := decide)
    iapply (wait_recvO x K _ 0 (by decide) [(dev0, .done), (dev2, .done)] (by decide)) $$ [CO0 HA PO0]
    · isplitr; · iexact He
      isplitl [CO0]; · iexact CO0
      isplitl [HA]; · iexact HA
      iexact PO0
    iintro ⟨HA, PO0, Ho0, #RD0⟩
    sl_exec (disch := decide)
    iapply (wait_recvM x K _ 0 (by decide) [(dev0, .done), (dev2, .done)] (by decide)) $$ [CM0 HA PM0]
    · isplitr; · iexact He
      isplitl [CM0]; · iexact CM0
      isplitl [HA]; · iexact HA
      iexact PM0
    iintro ⟨HA, PM0, Hm0⟩
    sl_exec (disch := decide)
    iapply (wait_recvO x K _ 1 (by decide) [(dev0, .done), (dev2, .done)] (by decide)) $$ [CO1 HA PO1]
    · isplitr; · iexact He
      isplitl [CO1]; · iexact CO1
      isplitl [HA]; · iexact HA
      iexact PO1
    iintro ⟨HA, PO1, Ho1, #RD1⟩
    sl_exec (disch := decide)
    iapply (wait_recvM x K _ 1 (by decide) [(dev0, .done), (dev2, .done)] (by decide)) $$ [CM1 HA PM1]
    · isplitr; · iexact He
      isplitl [CM1]; · iexact CM1
      isplitl [HA]; · iexact HA
      iexact PM1
    iintro ⟨HA, PM1, Hm1⟩
    sl_exec (disch := decide)
    iapply (step_done x K _ dev0 (by decide) [(dev2, .done)]) $$ [HA]
    · isplitr; · iexact He
      isplitl [HA]; · iexact HA
      isplitr; · unfold pay; iempintro
      iexact RD0
    iintro HA
    sl_exec (disch := decide)
    iapply (step_done x K _ dev2 (by decide) []) $$ [HA]
    · isplitr; · iexact He
      isplitl [HA]; · iexact HA
      isplitr; · unfold pay; iempintro
      iexact RD1
    iintro HA
    sl_exec (disch := decide)
    rw [wp_ret]
    imod (close_all x K _) $$ [PB PS0 PT0 PS1 PT1 PS2 PT2 PO0 PM0 PO1 PM1 PD] with HV
    · isplitr; · iexact He
      isplitl [PB]; · iexact PB
      isplitl [PS0 PT0]
      · isplitl [PS0]; · iexact PS0
        iexact PT0
      isplitl [PS1 PT1]
      · isplitl [PS1]; · iexact PS1
        iexact PT1
      isplitl [PS2 PT2]
      · isplitl [PS2]; · iexact PS2
        iexact PT2
      isplitl [PO0 PM0]
      · isplitl [PO0]; · iexact PO0
        iexact PM0
      isplitl [PO1 PM1]
      · isplitl [PO1]; · iexact PO1
        iexact PM1
      iexact PD
    ihave H3 := (owns_stored _ arg3 _ _) $$ H3
    imodintro
    isplitl [HV]; · iexact HV
    isplitl [HA]; · iexact HA
    isplitl [Ho0 Ho1 Hm0 Hm1]
    · isplitl [Ho0]; · iexists oAll x; iexact Ho0
      isplitl [Ho1]; · iexists oAll x; iexact Ho1
      isplitl [Hm0]; · iexists mAll x; iexact Hm0
      iexists mAll x; iexact Hm1
    isplitl [H0]; · iexact H0
    isplitl [H1]; · iexact H1
    isplitl [H2]; · iexact H2
    iexact H3

/-- The duties a device pays on its own send cells, on those that send. -/
def ownToks (c : Dev nD) : sProp 𝕄 := if c.val % 2 = 0 then sendToks c else iprop(emp)

/-- The call on any device. -/
theorem body_any (K : GSem nD τ sig → ℕ) (arg0 : Memref sig .tc .vmem S256x256 .f32) (harg0 : arg0.IsWhole)
    (arg1 : Memref sig .tc .vmem S2x4x64x128 .f32) (harg1 : arg1.IsWhole) (arg2 : Memref sig .tc .vmem S2x4x64x128 .f32) (harg2 : arg2.IsWhole)
    (arg3 : Memref sig .tc .vmem S256x256 .f32) (harg3 : arg3.IsWhole) (c : Dev nD) (d : S256x256.Idx → Elt F .f32) :
    iprop(env x K c ∗ ready (F := F) c ∗ ownToks c ∗ account c (debts c) ∗ scratch c
        ∗ owns (c : Thread nD τ) arg0 fullShare (x.q c) ∗ owns (c : Thread nD τ) arg1 fullShare (x.kt c)
        ∗ owns (c : Thread nD τ) arg2 fullShare (x.vt c) ∗ owns (c : Thread nD τ) arg3 fullShare d)
      ⊢ wp frame (wpE (defs₀ (F := F)) 𝒱₀ c none) Set.univ
          (cc0_body arg0 harg0 arg1 harg1 arg2 harg2 arg3 harg3 oM (Memref.isWhole_whole _) mM (Memref.isWhole_whole _) cc0_scratch2 cc0_scratch3 cc0_scratch4)
          fun _ => iprop(over (F := F) c ∗ account c [] ∗ scratch c
            ∗ owns (c : Thread nD τ) arg0 fullShare (x.q c) ∗ owns (c : Thread nD τ) arg1 fullShare (x.kt c)
            ∗ owns (c : Thread nD τ) arg2 fullShare (x.vt c) ∗ owns (c : Thread nD τ) arg3 fullShare (res x)) := by
  unfold ownToks
  rcases (by revert c; decide : c = dev0 ∨ c = dev1 ∨ c = dev2 ∨ c = dev3) with rfl | rfl | rfl | rfl
  · rw [if_pos (by decide)]
    exact body_0 x K arg0 harg0 arg1 harg1 arg2 harg2 arg3 harg3 d
  · rw [if_neg (by decide)]
    iintro ⟨He, HR, -, HA⟩
    iapply (body_odd x K arg0 harg0 arg1 harg1 arg2 harg2 arg3 harg3 dev1 (Or.inl rfl) d)
    isplitl [He]; · iexact He
    isplitl [HR]; · iexact HR
    iexact HA
  · rw [if_pos (by decide)]
    exact body_2 x K arg0 harg0 arg1 harg1 arg2 harg2 arg3 harg3 d
  · rw [if_neg (by decide)]
    iintro ⟨He, HR, -, HA⟩
    iapply (body_odd x K arg0 harg0 arg1 harg1 arg2 harg2 arg3 harg3 dev3 (Or.inr rfl) d)
    isplitl [He]; · iexact He
    isplitl [HR]; · iexact HR
    iexact HA

end Cert.KernelIdeal.Talk

end
-- ==== Proof.KI.Deal.lean ====
/- The launch: the ghost state of the protocol is made once for the whole mesh and dealt to the devices. Each device
   gets its own places at the semaphores, the right to open its scoped ones, the rights to make the payments it will
   make, and the units the others promise it. -/
module

public import proofs.«01_k».proof.Proof.KI.BodyOdd
public import Idealize.ShloMosaic.Lib.Pipeline.RegionTalk
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (x : Inp F)

/-! ## The cells -/

/-- The semaphores of the call, as against the barrier. -/
def scKind : Fin 11 → Kind
  | 0 => .sendO 0 | 1 => .sendM 0 | 2 => .sendO 1 | 3 => .sendM 1 | 4 => .sendO 2 | 5 => .sendM 2
  | 6 => .recvO 0 | 7 => .recvM 0 | 8 => .recvO 1 | 9 => .recvM 1 | 10 => .done

theorem scKind_inj : Function.Injective scKind := by decide
theorem scKind_ne : ∀ i, scKind i ≠ .bar := by decide
theorem scKind_or : ∀ k : Kind, k = .bar ∨ ∃ i, k = scKind i := by decide
theorem kinds_split : (Finset.univ : Finset Kind) = insert .bar (Finset.univ.map ⟨scKind, scKind_inj⟩) := by decide

def osem (i : Fin 11) : SemLoc sig := loc (scKind i)
theorem ownFacts : Pipeline.OwnSemFacts spec0 osem := by decide

def barEmb : Dev nD ↪ GSem nD τ sig := ⟨fun c => cell c .bar, fun _ _ h => (cell_inj h).1⟩
def scEmb : Dev nD × Fin 11 ↪ GSem nD τ sig :=
  ⟨fun e => cell e.1 (scKind e.2), fun _ _ h => Prod.ext (cell_inj h).1 (scKind_inj (cell_inj h).2)⟩

abbrev barCells : Finset (GSem nD τ sig) := Finset.univ.map barEmb
abbrev scCells : Finset (GSem nD τ sig) := Finset.univ.map scEmb

theorem cells_disjoint : Disjoint barCells scCells := by
  rw [Finset.disjoint_left]
  rintro g h h'
  obtain ⟨c, -, rfl⟩ := Finset.mem_map.mp h
  obtain ⟨e, -, he⟩ := Finset.mem_map.mp h'
  exact scKind_ne e.2 (cell_inj he).2

theorem cell_mem (c : Dev nD) (k : Kind) : cell c k ∈ barCells ∪ scCells := by
  rcases scKind_or k with rfl | ⟨i, rfl⟩
  · exact Finset.mem_union_left _ (Finset.mem_map_of_mem barEmb (Finset.mem_univ c))
  · exact Finset.mem_union_right _ (Finset.mem_map_of_mem scEmb (Finset.mem_univ (c, i)))

/-! ## The rights to pay -/

/-- The payments a device makes on its own send semaphores. -/
def sends (p : Dev nD) : List (Dev nD × Kind) :=
  if p.val % 2 = 0 then [(p, .sendO 0), (p, .sendM 0), (p, .sendO 1), (p, .sendM 1), (p, .sendO 2), (p, .sendM 2)] else []

theorem debts_nodup : ∀ p, (debts p).Nodup := by decide
theorem sends_nodup : ∀ p, (sends p).Nodup := by decide
theorem debts_sends : ∀ p, Disjoint (debts p).toFinset (sends p).toFinset := by decide

def paid (p : Dev nD) : Finset (Dev nD × Kind) := (debts p).toFinset ∪ (sends p).toFinset

def tokEmb (p : Dev nD) : Dev nD × Kind ↪ GSem nD τ sig × ℕ × Dev nD :=
  ⟨fun e => (cell e.1 e.2, 0, p), fun _ _ h => Prod.ext (cell_inj (congrArg Prod.fst h)).1 (cell_inj (congrArg Prod.fst h)).2⟩

def talkToks : Finset (GSem nD τ sig × ℕ × Dev nD) := Finset.univ.biUnion fun p => (paid p).map (tokEmb p)

theorem toks_list (p : Dev nD) : ∀ l : List (Dev nD × Kind), l.Nodup →
    bigSep l.toFinset (fun e => (dutyTok ER (cell e.1 e.2) 0 p : sProp 𝕄)) = toks p l
  | [], _ => bigSep_empty
  | e :: l, h => by
    rw [List.toFinset_cons, bigSep_insert (by rw [List.mem_toFinset]; exact (List.nodup_cons.mp h).1), toks_list p l (List.nodup_cons.mp h).2]
    rfl

theorem toks_sends (p : Dev nD) : (toks p (sends p) : sProp 𝕄) ⊢ ownToks p := by
  unfold sends ownToks
  split
  · unfold sendToks toks toks toks toks toks toks toks
    iintro ⟨T0, T1, T2, T3, T4, T5, -⟩
    isplitl [T0]; · iexact T0
    isplitl [T1]; · iexact T1
    isplitl [T2]; · iexact T2
    isplitl [T3]; · iexact T3
    isplitl [T4]; · iexact T4
    iexact T5
  · exact Entails.refl _

theorem deal_toks : bigSep talkToks (fun t => (dutyTok ER t.1 t.2.1 t.2.2 : sProp 𝕄))
    ⊢ bigSep Finset.univ fun p : Dev nD => iprop(toks p (debts p) ∗ ownToks p) := by
  unfold talkToks
  rw [bigSep_biUnion_eq _ _ _ (fun p _ p' _ hp => by
    rw [Finset.disjoint_left]
    rintro t h h'
    obtain ⟨e, -, rfl⟩ := Finset.mem_map.mp h
    obtain ⟨e', -, he⟩ := Finset.mem_map.mp h'
    exact hp (congrArg (fun t : GSem nD τ sig × ℕ × Dev nD => t.2.2) he).symm)]
  refine bigSep_mono fun p _ => ?_
  rw [bigSep_map]
  show bigSep (paid p) (fun e => (dutyTok ER (cell e.1 e.2) 0 p : sProp 𝕄)) ⊢ _
  unfold paid
  rw [bigSep_union (debts_sends p), toks_list p _ (debts_nodup p), toks_list p _ (sends_nodup p)]
  exact sep_mono_right (toks_sends p)

/-! ## The units promised -/

theorem owing_at (l : List (Dev nD × Kind)) (c : Dev nD) (k : Kind) : owing l (cell c k) () = l.count (c, k) * amt k := by
  induction l with
  | nil => rw [List.count_nil, Nat.zero_mul]; rfl
  | cons e l ih =>
    rw [owing, Pi.add_apply, Finsupp.add_apply, ih, tallyAt_apply, List.count_cons, Nat.add_mul]
    by_cases h : e = (c, k)
    · subst h; rw [if_pos ⟨rfl, rfl⟩, if_pos (beq_self_eq_true _), Nat.one_mul]
    · rw [if_neg (fun h' => h (by obtain ⟨h1, h2⟩ := cell_inj h'.1; exact Prod.ext h1.symm h2.symm)), if_neg (by rw [beq_iff_eq]; exact h), Nat.zero_mul]

/-- The semaphores whose units others promise at launch. -/
def promised : List Kind := [.bar, .recvO 0, .recvM 0, .recvO 1, .recvM 1, .done]

theorem promised_sum : ∀ k ∈ promised, ∀ c, (∑ d : Dev nD, (debts d).count (c, k)) = (payers c k).card := by decide

theorem promise (c : Dev nD) (k : Kind) (hk : k ∈ promised) :
    tallyOn (cell c k) (launchCredit (Pipeline.owing O₀) 0 (cell c k)) = (tallyAt (cell c k) () ((payers c k).card * amt k) : CellTallies nD τ sig Unit) := by
  unfold tallyAt; refine congrArg _ (Finsupp.ext fun u => ?_); cases u
  rw [Pipeline.launchCredit_owing, Finsupp.single_eq_same, ← promised_sum k hk c, Finset.sum_mul]
  exact Finset.sum_congr rfl fun d _ => owing_at (debts d) c k

def locEmb : Kind ↪ SemLoc sig := ⟨loc, loc_inj⟩

/-- What a device is promised. -/
def creds (c : Dev nD) : sProp 𝕄 :=
  iprop(cred (tallyAt (cell c .bar) () ((payers c .bar).card * amt .bar))
    ∗ cred (tallyAt (cell c (.recvO 0)) () ((payers c (.recvO 0)).card * amt (.recvO 0))) ∗ cred (tallyAt (cell c (.recvM 0)) () ((payers c (.recvM 0)).card * amt (.recvM 0)))
    ∗ cred (tallyAt (cell c (.recvO 1)) () ((payers c (.recvO 1)).card * amt (.recvO 1))) ∗ cred (tallyAt (cell c (.recvM 1)) () ((payers c (.recvM 1)).card * amt (.recvM 1)))
    ∗ cred (tallyAt (cell c .done) () ((payers c .done).card * amt .done)))

theorem deal_creds (c : Dev nD) : (Pipeline.launchCred O₀ c : sProp 𝕄) ⊢ creds c := by
  unfold Pipeline.launchCred
  refine BI.Entails.trans (bigSep_subset (Finset.subset_univ (promised.toFinset.map locEmb))) ?_
  rw [bigSep_map]
  show (bigSep promised.toFinset fun k => cred (tallyOn (cell c k) (launchCredit (Pipeline.owing O₀) 0 (cell c k)))) ⊢ creds c
  rw [bigSep_congr (Ψ := fun k => (cred (tallyAt (cell c k) () ((payers c k).card * amt k)) : sProp 𝕄))
    (fun k hk => congrArg cred (promise c k (List.mem_toFinset.mp hk))), bigSep_eq_bigSepL_of_eq promised rfl (by decide)]
  exact BI.Entails.refl _

/-! ## Dealing -/

/-- What every device may consult from the start: the protocol at every semaphore, and every barrier semaphore in use. -/
def records (K : GSem nD τ sig → ℕ) : sProp 𝕄 :=
  iprop((bigSep Finset.univ fun e : Dev nD × Kind => cellInv ER (talk x) (K (cell e.1 e.2)) (cell e.1 e.2))
    ∗ (bigSep Finset.univ fun d : Dev nD => reached ER (cell d .bar) 0))

instance records_persistent (K : GSem nD τ sig → ℕ) : BI.Persistent (records x K) := by unfold records; infer_instance

theorem records_of (K : GSem nD τ sig → ℕ) :
    iprop((bigSep (barCells ∪ scCells) fun g => cellInv ER (talk x) (K g) g) ∗ bigSep barCells fun g => reached ER g 0) ⊢ records x K := by
  unfold records
  rw [bigSep_map]
  exact BI.sep_mono (bigSep_intro_persistent fun e _ => bigSep_elim (Φ := fun g => (cellInv ER (talk x) (K g) g : sProp 𝕄)) (cell_mem e.1 e.2)) (BI.Entails.refl _)

theorem records_inv (K : GSem nD τ sig → ℕ) (c : Dev nD) (k : Kind) : records x K ⊢ cellInv ER (talk x) (K (cell c k)) (cell c k) :=
  sep_elim_left.trans (bigSep_elim (Φ := fun e : Dev nD × Kind => (cellInv ER (talk x) (K (cell e.1 e.2)) (cell e.1 e.2) : sProp 𝕄)) (Finset.mem_univ (c, k)))
theorem records_bar (K : GSem nD τ sig → ℕ) (c : Dev nD) : records x K ⊢ reached ER (cell c .bar) 0 :=
  sep_elim_right.trans (bigSep_elim (Φ := fun d : Dev nD => (reached ER (cell d .bar) 0 : sProp 𝕄)) (Finset.mem_univ c))

/-- What a device alone holds of the protocol when the program starts. -/
def linear (c : Dev nD) : sProp 𝕄 :=
  iprop(atPos ER (cell c .bar) 0 ∅ 0 ∗ (bigSep Finset.univ fun i : Fin 11 => openTok ER (cell c (scKind i))) ∗ (toks c (debts c) ∗ ownToks c))

/-- What it holds up to the call. -/
def start (c : Dev nD) : sProp 𝕄 := iprop((∃ K, records x K) ∗ linear c ∗ creds c)

/-- What it holds in the call. -/
def opened (c : Dev nD) : sProp 𝕄 := iprop((∃ K, env x K c) ∗ ready c ∗ ownToks c ∗ toks c (debts c))

theorem places (c : Dev nD) : (bigSep Finset.univ fun i : Fin 11 => (atPos ER (cell c (scKind i)) 0 ∅ 0 : sProp 𝕄))
    ⊢ iprop(atPos ER (cell c (.sendO 0)) 0 ∅ 0 ∗ atPos ER (cell c (.sendM 0)) 0 ∅ 0 ∗ atPos ER (cell c (.sendO 1)) 0 ∅ 0 ∗ atPos ER (cell c (.sendM 1)) 0 ∅ 0 ∗ atPos ER (cell c (.sendO 2)) 0 ∅ 0 ∗ atPos ER (cell c (.sendM 2)) 0 ∅ 0 ∗ atPos ER (cell c (.recvO 0)) 0 ∅ 0 ∗ atPos ER (cell c (.recvM 0)) 0 ∅ 0 ∗ atPos ER (cell c (.recvO 1)) 0 ∅ 0 ∗ atPos ER (cell c (.recvM 1)) 0 ∅ 0 ∗ atPos ER (cell c .done) 0 ∅ 0) := by
  rw [bigSep_univ_eq_bigSepL [(0 : Fin 11), 1, 2, 3, 4, 5, 6, 7, 8, 9, 10] (by decide) (by decide)]
  exact BI.Entails.refl _

theorem open_all (c : Dev nD) : iprop(start x c ∗ Pipeline.ownSems0 osem c ∗ levAts L lv) ⊢ (|={Set.univ}=> opened x c : sProp 𝕄) := by
  unfold start Pipeline.ownSems0 linear
  iintro ⟨⟨⟨%K, #HR⟩, ⟨HB, HT, Htoks, Hown⟩, Hcr⟩, HV, #Hlev⟩
  have hopen : iprop(records x K ∗ (bigSep Finset.univ fun i : Fin 11 => iprop(openTok ER (cell c (scKind i)) ∗ semVal (cell c (scKind i)) 0)))
      ⊢ (|={Set.univ}=> bigSep Finset.univ fun i : Fin 11 => iprop(atPos ER (cell c (scKind i)) 0 ∅ 0 ∗ reached ER (cell c (scKind i)) 0) : sProp 𝕄) := by
    refine (bigSep_with_persistent fun i _ => ?_).trans (bigSep_fupd _ _)
    iintro ⟨#HR, HT, HV⟩
    iapply (Rounds.cell_open ER (talk x) (g := cell c (scKind i)) (Set.mem_univ (K (cell c (scKind i)))))
    isplitr
    · iapply (records_inv x K c (scKind i)); iexact HR
    isplitl [HT] <;> iassumption
  ihave HTV := Smoke.bigSep_pair $$ [HT HV]
  · isplitl [HT]; · iexact HT
    iexact HV
  imod hopen $$ [HTV] with HA
  · isplitr; · iexact HR
    iexact HTV
  imodintro
  ihave HA := Smoke.bigSep_unpair $$ HA
  icases HA with ⟨HA, #HRe⟩
  unfold opened
  isplitr
  · iexists K
    ihave #Hb := (records_bar x K c) $$ HR
    unfold env
    unfold records
    icases HR with ⟨#HI, #Hbs⟩
    isplitr; · iexact HI
    isplitr; · iexact Hbs
    isplitr
    · have hall : iprop(reached ER (cell c .bar) 0 ∗ (bigSep Finset.univ fun i : Fin 11 => reached ER (cell c (scKind i)) 0))
          ⊢ (bigSep Finset.univ fun k : Kind => reached ER (cell c k) 0 : sProp 𝕄) := by
        rw [kinds_split, bigSep_insert (by decide), bigSep_map]; exact Entails.refl _
      iapply hall
      isplitr
      · iexact Hb
      iexact HRe
    iexact Hlev
  isplitl [HB HA Hcr]
  · unfold ready
    isplitl [HB HA]
    · isplitl [HB]; · iexact HB
      ihave HA := (places c) $$ HA
      icases HA with ⟨A0, A1, A2, A3, A4, A5, A6, A7, A8, A9, A10⟩
      isplitl [A0 A1]
      · isplitl [A0]; · iexact A0
        iexact A1
      isplitl [A2 A3]
      · isplitl [A2]; · iexact A2
        iexact A3
      isplitl [A4 A5]
      · isplitl [A4]; · iexact A4
        iexact A5
      isplitl [A6 A7]
      · isplitl [A6]; · iexact A6
        iexact A7
      isplitl [A8 A9]
      · isplitl [A8]; · iexact A8
        iexact A9
      iexact A10
    unfold creds
    iexact Hcr
  isplitl [Hown]; · iexact Hown
  iexact Htoks

/-- The semaphores of the call, all at zero, listed as the launch lists them. -/
theorem over_own (c : Dev nD) : (over c : sProp 𝕄) ⊢ iprop(Pipeline.ownSems0 osem c ∗ semVal (cell c .bar) 0) := by
  rw [Pipeline.ownSems0_eq_of_list c osem [(0 : Fin 11), 1, 2, 3, 4, 5, 6, 7, 8, 9, 10] (by decide) (by decide)]
  show over c ⊢ iprop((semVal (cell c (.sendO 0)) 0 ∗ semVal (cell c (.sendM 0)) 0 ∗ semVal (cell c (.sendO 1)) 0 ∗ semVal (cell c (.sendM 1)) 0
    ∗ semVal (cell c (.sendO 2)) 0 ∗ semVal (cell c (.sendM 2)) 0 ∗ semVal (cell c (.recvO 0)) 0 ∗ semVal (cell c (.recvM 0)) 0
    ∗ semVal (cell c (.recvO 1)) 0 ∗ semVal (cell c (.recvM 1)) 0 ∗ semVal (cell c .done) 0) ∗ semVal (cell c .bar) 0)
  unfold over
  iintro ⟨VB, ⟨V0, V1⟩, ⟨V2, V3⟩, ⟨V4, V5⟩, ⟨V6, V7⟩, ⟨V8, V9⟩, V10⟩
  isplitr [VB]
  · isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    iexact V10
  iexact VB

end Cert.KernelIdeal.Talk

end
-- ==== Proof.KI.Region.lean ====
/- The call as the program makes it: the windows' blocks are the whole arrays, the two scratch arrays come as buffers and
   are split into slots, and every device leaves the merged result in its block. -/
module

public import proofs.«01_k».proof.Proof.KI.Deal
public import proofs.«01_k».proof.Proof.Gen.KernelIdeal.Frame
public import Idealize.ShloMosaic.Lib.Pipeline.Value

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The scratch arrays and their slots -/

theorem mem_oSlot (s : Fin 2) (i : S2x2x128x256.Idx) : i ∈ (oSlot s).view.set ↔ (i 0).val = s.val := by
  rw [Memref.set_view_squeeze]
  show i ∈ ((View.whole cc0_scratch0).slice (oRect s)).set ↔ _
  rw [View.set_slice_whole, Rect.mem_set_unit]
  refine ⟨fun h => ?_, fun h a => ?_⟩
  · have h0 : s.val ≤ (i 0).val ∧ (i 0).val < s.val + 1 := h 0
    omega
  · match a with
    | 0 => exact ⟨le_of_eq h.symm, by show (i 0).val < s.val + 1; omega⟩
    | 1 => exact ⟨Nat.zero_le _, by have : (i 1).val < 2 := (i 1).isLt; show (i 1).val < 0 + 2; omega⟩
    | 2 => exact ⟨Nat.zero_le _, by have : (i 2).val < 128 := (i 2).isLt; show (i 2).val < 0 + 128; omega⟩
    | 3 => exact ⟨Nat.zero_le _, by have : (i 3).val < 256 := (i 3).isLt; show (i 3).val < 0 + 256; omega⟩

theorem mem_mSlot (s : Fin 2) (i : S2x2x4x2x128.Idx) : i ∈ (mSlot s).view.set ↔ (i 0).val = s.val := by
  rw [Memref.set_view_squeeze]
  show i ∈ ((View.whole cc0_scratch1).slice (mRect s)).set ↔ _
  rw [View.set_slice_whole, Rect.mem_set_unit]
  refine ⟨fun h => ?_, fun h a => ?_⟩
  · have h0 : s.val ≤ (i 0).val ∧ (i 0).val < s.val + 1 := h 0
    omega
  · match a with
    | 0 => exact ⟨le_of_eq h.symm, by show (i 0).val < s.val + 1; omega⟩
    | 1 => exact ⟨Nat.zero_le _, by have : (i 1).val < 2 := (i 1).isLt; show (i 1).val < 0 + 2; omega⟩
    | 2 => exact ⟨Nat.zero_le _, by have : (i 2).val < 4 := (i 2).isLt; show (i 2).val < 0 + 4; omega⟩
    | 3 => exact ⟨Nat.zero_le _, by have : (i 3).val < 2 := (i 3).isLt; show (i 3).val < 0 + 2; omega⟩
    | 4 => exact ⟨Nat.zero_le _, by have : (i 4).val < 128 := (i 4).isLt; show (i 4).val < 0 + 128; omega⟩

theorem oSlots_disjoint : Disjoint (oSlot 0).view.set (oSlot 1).view.set := by
  rw [Finset.disjoint_left]
  intro i h h'
  have h := (mem_oSlot 0 i).mp h; have h' := (mem_oSlot 1 i).mp h'
  exact absurd (h.symm.trans h') (by decide)
theorem mSlots_disjoint : Disjoint (mSlot 0).view.set (mSlot 1).view.set := by
  rw [Finset.disjoint_left]
  intro i h h'
  have h := (mem_mSlot 0 i).mp h; have h' := (mem_mSlot 1 i).mp h'
  exact absurd (h.symm.trans h') (by decide)
theorem oSlots_union : (oSlot 0).view.set ∪ (oSlot 1).view.set = Finset.univ := by
  ext i
  have hi : (i 0).val < 2 := (i 0).isLt
  rw [Finset.mem_union, mem_oSlot, mem_oSlot]
  exact iff_of_true (show (i 0).val = 0 ∨ (i 0).val = 1 by omega) (Finset.mem_univ i)
theorem mSlots_union : (mSlot 0).view.set ∪ (mSlot 1).view.set = Finset.univ := by
  ext i
  have hi : (i 0).val < 2 := (i 0).isLt
  rw [Finset.mem_union, mem_mSlot, mem_mSlot]
  exact iff_of_true (show (i 0).val = 0 ∨ (i 0).val = 1 by omega) (Finset.mem_univ i)

theorem scratch_in (c : Dev nD) : (Pipeline.scopedRest spec0 c : sProp 𝕄) ⊢ scratch c := by
  rw [scopedRest0_eq]
  iintro ⟨⟨%f, Ho⟩, ⟨%g, Hm⟩⟩
  ihave Ho := (Entails.of_eq (congrArg (fun S => ((c : Thread nD τ).loc cc0_scratch0 ↦[S]{fullShare} f : sProp 𝕄)) oSlots_union.symm)) $$ Ho
  ihave Hm := (Entails.of_eq (congrArg (fun S => ((c : Thread nD τ).loc cc0_scratch1 ↦[S]{fullShare} g : sProp 𝕄)) mSlots_union.symm)) $$ Hm
  ihave Ho := (pointsTo_union oSlots_disjoint).1 $$ Ho
  ihave Hm := (pointsTo_union mSlots_disjoint).1 $$ Hm
  icases Ho with ⟨Ho0, Ho1⟩
  icases Hm with ⟨Hm0, Hm1⟩
  unfold scratch
  isplitl [Ho0]; · iexists f; iexact Ho0
  isplitl [Ho1]; · iexists f; iexact Ho1
  isplitl [Hm0]; · iexists g; iexact Hm0
  iexists g; iexact Hm1

theorem scratch_out (c : Dev nD) : (scratch c : sProp 𝕄) ⊢ Pipeline.scopedRest spec0 c := by
  rw [scopedRest0_eq]
  unfold scratch
  iintro ⟨⟨%f, Ho0⟩, ⟨%f', Ho1⟩, ⟨%g, Hm0⟩, ⟨%g', Hm1⟩⟩
  ihave Ho := (pointsTo_join (ℓ := (c : Thread nD τ).loc cc0_scratch0) (f := f) (g := f') oSlots_disjoint) $$ [Ho0 Ho1]
  · isplitl [Ho0]; · iexact Ho0
    iexact Ho1
  ihave Hm := (pointsTo_join (ℓ := (c : Thread nD τ).loc cc0_scratch1) (f := g) (g := g') mSlots_disjoint) $$ [Hm0 Hm1]
  · isplitl [Hm0]; · iexact Hm0
    iexact Hm1
  isplitl [Ho]
  · iexists _
    iapply (Entails.of_eq (congrArg (fun S => ((c : Thread nD τ).loc cc0_scratch0 ↦[S]{fullShare} _ : sProp 𝕄)) oSlots_union)) $$ Ho
  iexists _
  iapply (Entails.of_eq (congrArg (fun S => ((c : Thread nD τ).loc cc0_scratch1 ↦[S]{fullShare} _ : sProp 𝕄)) mSlots_union)) $$ Hm

/-! ## The windows -/

/-- What the call finds in the three arrays it reads. -/
def inp : Inp F := ⟨fun c => V m c main_v2, fun c => V m c main_v3, fun c => V m c main_v4⟩

theorem at_home {off size : ℕ} (h : off = 0) (n : ℕ) : off * size + 1 * n = n := by rw [h]; omega

theorem blk_q (c : Dev nD) (t : Fin cfg0.N) : iblk m c 0 t = (inp m).q c :=
  funext fun j => congrArg (V m c main_v2) (funext fun a => Fin.ext (at_home rfl _))
theorem blk_kt (c : Dev nD) (t : Fin cfg0.N) : iblk m c 1 t = (inp m).kt c :=
  funext fun j => congrArg (V m c main_v3) (funext fun a => Fin.ext (at_home rfl _))
theorem blk_vt (c : Dev nD) (t : Fin cfg0.N) : iblk m c 2 t = (inp m).vt c :=
  funext fun j => congrArg (V m c main_v4) (funext fun a => Fin.ext (at_home rfl _))

/-! ## The call's proof data -/

/-- Before the one point the device holds what was opened for it, and after it the semaphores back at zero; the scratch
    arrays and the random register at both. -/
def dat0 (c : Dev nD) : Dat τ (Elt F) Unit ℕ UU ℕ cfg0 c where
  A w := V m c (Pipeline.arrRef spec0 w)
  after w t := match w with
    | 0 => iblk m c 0 t | 1 => iblk m c 1 t | 2 => iblk m c 2 t | 3 => res (inp m)
  Φ t := if t.val = 0 then iprop(opened (inp m) c ∗ scratch c ∗ ∃ r, prngReg c r)
    else iprop(over c ∗ scratch c ∗ ∃ r, prngReg c r)
  q _ := fullShare
  owed t := if t.val = 0 then O₀ c else 0

theorem before_q (c : Dev nD) (t : Fin cfg0.N) (d) : (dat0 m c).before 0 t d = iblk m c 0 t :=
  ((dat0 m c).before_in_eq_fetched 0 rfl (fun _ => rfl) (fun _ _ _ => rfl) (fun _ => rfl) t d).trans rfl
theorem before_kt (c : Dev nD) (t : Fin cfg0.N) (d) : (dat0 m c).before 1 t d = iblk m c 1 t :=
  ((dat0 m c).before_in_eq_fetched 1 rfl (fun _ => rfl) (fun _ _ _ => rfl) (fun _ => rfl) t d).trans rfl
theorem before_vt (c : Dev nD) (t : Fin cfg0.N) (d) : (dat0 m c).before 2 t d = iblk m c 2 t :=
  ((dat0 m c).before_in_eq_fetched 2 rfl (fun _ => rfl) (fun _ _ _ => rfl) (fun _ => rfl) t d).trans rfl

theorem owed_zero (c : Dev nD) : (dat0 m c).owed 0 = O₀ c := by
  show (if (0 : Fin (cfg0.N + 1)).val = 0 then O₀ c else 0) = O₀ c
  exact if_pos rfl
theorem owed_first (c : Dev nD) : (dat0 m c).owed t0_0.castSucc = O₀ c := by
  show (if (t0_0.castSucc : Fin (cfg0.N + 1)).val = 0 then O₀ c else 0) = O₀ c
  exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h : (dat0 m c).owed t = O)
    (W : Waits sig Unit) : (owes (c : Thread nD τ) O W : sProp 𝕄) ⊢ ((dat0 m c).owesAt () t : sProp 𝕄) := by
  unfold Dat.owesAt Pipeline.owesWithin Dat.bound
  rw [h]
  iintro HO
  iexists W
  isplitr; · ipureintro; exact fun _ _ => Or.inl trivial
  iexact HO

theorem owesAt_elim (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, HO⟩
  iexists W
  iexact HO

theorem Phi_first (c : Dev nD) : (dat0 m c).Φ t0_0.castSucc = iprop(opened (inp m) c ∗ scratch c ∗ ∃ r, prngReg c r) := rfl
theorem Phi_last (c : Dev nD) : (dat0 m c).Φ (Fin.last _) = iprop(over c ∗ scratch c ∗ ∃ r, prngReg c r) := by
  show (if (Fin.last cfg0.N).val = 0 then iprop(opened (inp m) c ∗ scratch c ∗ ∃ r, prngReg c r)
    else iprop(over c ∗ scratch c ∗ ∃ r, prngReg c r)) = _
  rw [Fin.val_last, if_neg (by rw [show cfg0.N = 1 from N_0]; decide)]
theorem Phi_succ (c : Dev nD) : (dat0 m c).Φ t0_0.succ = iprop(over c ∗ scratch c ∗ ∃ r, prngReg c r) := rfl

set_option maxHeartbeats 1000000 in
theorem body (c : Dev nD) : BodyObligation (dat0 m c) defs₀ 𝒱₀ () Set.univ := fun t => by
  obtain rfl := fin_N0 t
  rw [bigSep_W0, bigSep_W0, Phi_first, Phi_succ]
  simp only [before_q, before_kt, before_vt]
  rw [show (dat0 m c).after 0 t0_0 = iblk m c 0 t0_0 from rfl, show (dat0 m c).after 1 t0_0 = iblk m c 1 t0_0 from rfl,
    show (dat0 m c).after 2 t0_0 = iblk m c 2 t0_0 from rfl, show (dat0 m c).after 3 t0_0 = res (inp m) from rfl,
    blk_q, blk_kt, blk_vt]
  unfold opened
  iintro ⟨⟨⟨⟨%K, #He⟩, Hr, Ht, Hd⟩, Hs, Hreg⟩, HO, ⟨%d0, H0⟩, ⟨%d1, H1⟩, ⟨%d2, H2⟩, ⟨%d3, H3⟩⟩
  ihave HO := (owesAt_elim m c _ (O₀ c) (owed_first m c)) $$ HO
  icases HO with ⟨%W, HO⟩
  iapply (wp_wand_r frame (wpE (defs₀ (F := F)) 𝒱₀ c none) Set.univ)
  isplitr [Hreg]
  · iapply (body_any (inp m) K _ (hstage0_0 0) _ (hstage0_1 0) _ (hstage0_2 0) _ (hstage0_3 0) c ((dat0 m c).before 3 t0_0 d3))
    isplitr; · iexact He
    isplitl [Hr]; · iexact Hr
    isplitl [Ht]; · iexact Ht
    isplitl [HO Hd]
    · unfold account
      isplitl [HO]; · iexists W; iexact HO
      iexact Hd
    isplitl [Hs]; · iexact Hs
    isplitl [H0]; · iexact H0
    isplitl [H1]; · iexact H1
    isplitl [H2]; · iexact H2
    iexact H3
  unfold account
  iintro %a ⟨Hv, ⟨⟨%W', HO⟩, -⟩, Hs, H0, H1, H2, H3⟩
  isplitl [Hv Hs Hreg]
  · isplitl [Hv]; · iexact Hv
    isplitl [Hs]; · iexact Hs
    iexact Hreg
  isplitl [HO]; · iapply (owesAt_intro m c _ (owing []) (owed_last m c) W') $$ HO
  isplitl [H0]; · iexact H0
  isplitl [H1]; · iexact H1
  isplitl [H2]; · iexact H2
  iexact H3

/-! ## What the call leaves -/

theorem flushed_res (c : Dev nD) (t : Fin cfg0.N) :
    (dat0 m c).flushed 3 t = ((cfg0.win 3).blk t).view.read (Elt F) (res (inp m)) := by
  have ha : (dat0 m c).after 3 t = res (inp m) := rfl
  unfold Dat.flushed
  rw [ha]
  funext j
  exact congrArg (res (inp m)) (funext fun a => Fin.ext (at_home rfl _)).symm

theorem covered (i : S256x256.Idx) : ∃ t : Fin cfg0.N, (cfg0.win 3).flush t = true ∧ i ∈ ((cfg0.win 3).blk t).view.set := by
  refine ⟨t0_0, flush0_3 _, ?_⟩
  show i ∈ ((View.whole main_v5).slice (win0_3.rect t0_0)).set
  rw [View.set_slice_whole, Rect.mem_set_unit]
  intro a
  show 0 * S256x256.size a ≤ (i a).val ∧ (i a).val < 0 * S256x256.size a + S256x256.size a
  have : (i a).val < S256x256.size a := (i a).isLt
  omega

theorem arr_res (c : Dev nD) : (dat0 m c).arrAt 3 cfg0.N = res (inp m) :=
  (dat0 m c).arrAt_eq_of_cover 3 (res (inp m)) (fun t _ => flushed_res m c t) covered

/-! ## The region -/

/-- The buffers when the call returns: the result's array holds the merged rows, the others what they held. -/
def after0 (c : Dev nD) : Valuation τ sig (Elt F) :=
  Pipeline.withArrays spec0 c (V0 m c) fun w => (dat0 m c).arrAt w cfg0.N

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

end Cert.KernelIdeal.Talk

end
-- ==== Proof.KI.Run.lean ====
/- The program's run: four host operations, the call, two host operations, from any memory with zero counters. It ends
   with every array at the value these give it and every semaphore at zero. -/
module

public import proofs.«01_k».proof.Proof.KI.Region

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

variable (ρ : Dev nD → PrngReg)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## The buffers -/

abbrev bufs : Finset (DevRef τ sig) := Pipeline.ucRefs τ sig
abbrev arrs : Finset (DevRef τ sig) := Pipeline.arrRefs (τ := τ) spec0

/-- At launch. -/
def first (c : Dev nD) : Valuation τ sig (Elt F) := fun b => m (c, b)
/-- When the call is made. -/
def before0 (c : Dev nD) : Valuation τ sig (Elt F) := StableHlo.after hostOps0 (first m c)
/-- At the end. -/
def final (c : Dev nD) : Valuation τ sig (Elt F) := StableHlo.after hostOps1 (after0 m c)

theorem before0_eq (c : Dev nD) : before0 m c = V0 m c := rfl

theorem arrs_sub : arrs ⊆ bufs := Pipeline.arrRefs_sub_ucRefs spec0 (by decide)
theorem arrRef_inj : Function.Injective (Pipeline.arrRef spec0) := by decide

theorem after0_arr (c : Dev nD) (w : Fin 4) :
    (dat0 m c).arrAt w cfg0.N = after0 m c (Proc.devRef .tc (Pipeline.arrRef spec0 w)) :=
  (Pipeline.withArrays_arr spec0 arrRef_inj c (V0 m c) (fun w => (dat0 m c).arrAt w cfg0.N) w).symm

theorem after0_rest (c : Dev nD) : ∀ b ∈ (bufs \ arrs) \ ∅, after0 m c b = V0 m c b := fun b hb => by
  rw [Finset.sdiff_empty, Finset.mem_sdiff] at hb
  obtain ⟨r, -, rfl⟩ := Finset.mem_map.mp (Finset.mem_filter.mp hb.1).1
  exact Pipeline.withArrays_of_ne spec0 c (V0 m c) _ r fun w hw =>
    hb.2 (Finset.mem_map.mpr ⟨r, Finset.mem_image.mpr ⟨w, Finset.mem_univ w, hw⟩, rfl⟩)

/-! ## The call -/

theorem phi_in (c : Dev nD) : iprop(Pipeline.scopedRest (Pipeline.pin (pcfgs (F := F)) adm 0).spec c ∗ (∃ r, prngReg c r)
      ∗ StableHlo.held (c.tc : Thread nD τ) (∅ : Finset (DevRef τ sig)) (V0 m c) ∗ opened (inp m) c) ⊢ ((pdats m 0 c).Φ 0 : sProp 𝕄) := by
  rw [show (pdats m 0 c).Φ 0 = iprop(opened (inp m) c ∗ scratch c ∗ ∃ r, prngReg c r) from rfl]
  iintro ⟨Hs, Hp, -, Ho⟩
  isplitl [Ho]; · iexact Ho
  isplitl [Hs]; · iapply (scratch_in (F := F) c) $$ Hs
  iexact Hp

theorem phi_out (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) (∅ : Finset (DevRef τ sig)) (after0 m c) ∗ Pipeline.ownSems0 osem c ∗ semVal (cell c .bar) 0) := by
  rw [show (pdats m 0 c).Φ (Fin.last _) = iprop(over c ∗ scratch c ∗ ∃ r, prngReg c r) from Phi_last m c]
  iintro ⟨Hv, Hs, Hp⟩
  ihave Hv := (over_own (F := F) c) $$ Hv
  icases Hv with ⟨Hv, Hb⟩
  isplitl [Hs]; · iapply (scratch_out (F := F) c) $$ Hs
  isplitl [Hp]; · iexact Hp
  isplitr
  · unfold StableHlo.held
    rw [BI.bigSep_empty]
    iempintro
  isplitl [Hv]; · iexact Hv
  iexact Hb

theorem debts_level : ∀ p : Dev nD, ∀ e ∈ debts p, 0 < level e.2 := by decide

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨e, he, rfl⟩ := owing_pos (debts c) h
    exact ⟨by rw [L_tc]; exact Finset.mem_singleton_self _, by rw [lv_cell]; exact debts_level c e he⟩
  · exact absurd h (Nat.lt_irrefl 0)

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem share_full (c : Dev nD) (w : Fin 4) : (pdats (F := F) m 0 c).share w = fullShare := by
  unfold Dat.share
  split <;> rfl

theorem staging_kind : ∀ (w : Fin 4) (s : Fin (win0 w).nbuf), kindOf (.dma ((win0 w).sem s)) = none := by decide

theorem staging_level (c : Dev nD) (w : Fin 4) (s : Fin (win0 w).nbuf) : lv ((c.tc : Thread nD τ), SemLoc.dma ((win0 w).sem s)) () ≤ 0 := by
  unfold lv
  rw [staging_kind w s]

set_option backward.isDefEq.respectTransparency.types false in
def reg : ℝ𝕊 0 :=
  Pipeline.RegionSeg.ofTalk (pcfgs (F := F)) adm (pdats m) () defs₀ 𝒱₀ L lv 0 osem ownFacts
    ∅ (bufs \ arrs) (Finset.empty_subset _) kit rfl (fun c => (body m c).loose)
    (fun _ => 0) O₀ (fun c => (owed_zero m c).trans (zero_add _).symm) (owed_last m) (fun _ => rfl) (share_full m)
    (V0 m) (after0 m) (after0_rest m)
    (start (inp m)) (fun c => semVal (cell c .bar) 0) (opened (inp m)) (fun c => semVal (cell c .bar) 0)
    (open_all (inp m)) (phi_in m) (phi_out m)
    (fun c => by iintro H; imodintro; iexact H)
    (fun _ => 0)
    ⟨fun c w s => by rw [L_tc]; exact Finset.mem_singleton_self _, fun c w s => staging_level c w s, fun c t g i h => owed_cut m c t g i h⟩
    (fun _ => iprop(emp))
    (fun c w => rfl) (after0_arr m)

/-! ## The host's stretches -/

theorem sub0 : ∀ op ∈ (hostOps0 : List (HloOp τ sig (Elt F))), op.bufs ⊆ bufs := fun op h =>
  Pipeline.sub_ucRefs op (List.forall_iff_forall_mem.mp hostOps0_sub op h)
theorem sub1 : ∀ op ∈ (hostOps1 : List (HloOp τ sig (Elt F))), op.bufs ⊆ bufs := fun op h =>
  Pipeline.sub_ucRefs op (List.forall_iff_forall_mem.mp hostOps1_sub op h)

def seg0 : ℍ := Pipeline.HostSeg.ofOps _ _ _ _ _ bufs hostOps0 sub0 (List.forall_iff_forall_mem.mp hostOps0_fresh) (first m)
  fun c => iprop((∃ r, prngReg c r) ∗ start (inp m) c ∗ ∃ W, owes (c : Thread nD τ) (O₀ c) W)

def seg1 : ℍ := Pipeline.HostSeg.ofOps _ _ _ _ _ bufs hostOps1 sub1 (List.forall_iff_forall_mem.mp hostOps1_fresh) (after0 m)
  fun c => iprop(semVal (cell c .bar) 0 ∗ ∃ W, owes (c : Thread nD τ) (0 : CellTallies nD τ sig Unit) W)

theorem reg_pre (c : Dev nD) : (seg0 m).post c ⊢ (reg m).pre c := by
  show iprop(StableHlo.held (c.tc : Thread nD τ) bufs (V0 m c)
      ∗ (∃ r, prngReg c r) ∗ start (inp m) c ∗ ∃ W, owes (c : Thread nD τ) (O₀ c) W)
    ⊢ iprop(StableHlo.held (c.tc : Thread nD τ) arrs (V0 m c) ∗ (∃ r, prngReg c r)
      ∗ (StableHlo.held (c.tc : Thread nD τ) (bufs \ arrs) (V0 m c) ∗ emp) ∗ start (inp m) c ∗ ∃ W, owes (c : Thread nD τ) (0 + O₀ c) W)
  rw [zero_add, StableHlo.held_sub_split (c.tc : Thread nD τ) arrs_sub (V0 m c)]
  iintro ⟨⟨Ha, Hr⟩, Hp, Hs, HO⟩
  isplitl [Ha]; · iexact Ha
  isplitl [Hp]; · iexact Hp
  isplitl [Hr]
  · isplitl [Hr]; · iexact Hr
    iempintro
  isplitl [Hs]; · iexact Hs
  iexact HO

theorem reg_post (c : Dev nD) : (reg m).post c ⊢ (seg1 m).pre c := by
  show iprop(StableHlo.held (c.tc : Thread nD τ) arrs (after0 m c) ∗ (∃ r, prngReg c r)
      ∗ (StableHlo.held (c.tc : Thread nD τ) (bufs \ arrs) (after0 m c) ∗ emp) ∗ semVal (cell c .bar) 0
      ∗ ∃ W, owes (c : Thread nD τ) (0 : CellTallies nD τ sig Unit) W)
    ⊢ iprop(StableHlo.held (c.tc : Thread nD τ) bufs (after0 m c)
      ∗ semVal (cell c .bar) 0 ∗ ∃ W, owes (c : Thread nD τ) (0 : CellTallies nD τ sig Unit) W)
  rw [StableHlo.held_sub_split (c.tc : Thread nD τ) arrs_sub (after0 m c)]
  iintro ⟨Ha, -, ⟨Hr, -⟩, Hb, HO⟩
  isplitl [Ha Hr]
  · isplitl [Ha]; · iexact Ha
    iexact Hr
  isplitl [Hb]; · iexact Hb
  iexact HO

def segs : List (Pipeline.Seg (pcfgs (F := F)) adm (pdats m) () defs₀ 𝒱₀ L lv) := [.host (seg0 m), .region (reg m), .host (seg1 m)]

/-! ## The launch -/

abbrev T₀ (c : Dev nD) : sProp 𝕄 := (seg0 m).pre c
abbrev Tₙ (c : Dev nD) : sProp 𝕄 := iprop(StableHlo.held (c : Thread nD τ) bufs (final m c) ∗ semVal (cell c .bar) 0)

def u₀ : UU :=
  (initOf (Pipeline.cells (Pipeline.pin (pcfgs (F := F)) adm) cellOf_inj) (Pipeline.launchToks (Pipeline.pin (pcfgs (F := F)) adm) cellOf_inj),
    launchOf barCells scCells talkToks)

/-- All of the protocol's ghost state waits on one device until it is dealt. -/
def G (c : Dev nD) : sProp 𝕄 := if c = dev0 then BI.own (ER (launchOf barCells scCells talkToks)) else iprop(emp)

theorem bigSep_G : bigSep Finset.univ (G (F := F)) = BI.own (ER (launchOf barCells scCells talkToks)) := by
  rw [bigSep_univ_at _ dev0, bigSep_congr (s := Finset.univ.erase dev0) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-- What a device has at launch beside the protocol's share. -/
def bundle (c : Dev nD) : sProp 𝕄 :=
  iprop(StableHlo.held (c : Thread nD τ) bufs (first m c) ∗ (∃ r, prngReg c r) ∗ creds c ∗ owes (c : Thread nD τ) (O₀ c) ∅)

theorem T₀_intro (K : GSem nD τ sig → ℕ) (c : Dev nD) : iprop(records (inp m) K ∗ (linear c ∗ bundle m c)) ⊢ T₀ m c := by
  show _ ⊢ iprop(StableHlo.held (c.tc : Thread nD τ) bufs (first m c)
      ∗ (∃ r, prngReg c r) ∗ start (inp m) c ∗ ∃ W, owes (c : Thread nD τ) (O₀ c) W)
  unfold bundle start
  iintro ⟨#HR, Hl, Hh, Hp, Hc, HO⟩
  isplitl [Hh]; · iexact Hh
  isplitl [Hp]; · iexact Hp
  isplitr [HO]
  · isplitr; · iexists K; iexact HR
    isplitl [Hl]; · iexact Hl
    iexact Hc
  iexists ∅
  iexact HO

theorem unscopedSems_eq (c : Dev nD) : (unscopedSems0 c : sProp 𝕄) = semVal (cell c .bar) 0 := by
  unfold unscopedSems0
  rw [show (Finset.univ.filter fun sm : SemLoc sig => ¬ sm.isScoped .tc) = {loc .bar} from by decide, BI.bigSep_singleton]
theorem unscoped_bar : ∀ sm : SemLoc sig, sm.isScoped .tc = false → sm = loc .bar := by decide

/-- What a device is launched with. -/
def launched (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem launched_parts (c : Dev nD) : launched m ρ c ⊢ iprop(bundle m c ∗ semVal (cell c .bar) 0 ∗ G c) := by
  unfold launched bundle
  rw [show unscopedBufs c (fun b => m ((c : Thread nD τ).loc b)) = StableHlo.held (c : Thread nD τ) bufs (first m c)
    from Pipeline.unscopedBufs_held c (first m c), unscopedSems_eq]
  iintro ⟨Hh, Hs, HO, Hc, Hp, HG⟩
  ihave Hc := (deal_creds (F := F) c) $$ Hc
  isplitl [Hh HO Hc Hp]
  · isplitl [Hh]; · iexact Hh
    isplitl [Hp]; · iexists ρ c; iexact Hp
    isplitl [Hc]; · iexact Hc
    iexact HO
  isplitl [Hs]; · iexact Hs
  iexact HG

theorem bar_sems : bigSep Finset.univ (fun c : Dev nD => (semVal (cell c .bar) 0 : sProp 𝕄)) ⊢ bigSep barCells fun g => semVal g 0 :=
  Entails.of_eq (bigSep_map (s := Finset.univ) barEmb (Φ := fun g : GSem nD τ sig => (semVal g 0 : sProp 𝕄))).symm
theorem bar_places : bigSep barCells (fun g => (atPos ER g 0 ∅ 0 : sProp 𝕄)) ⊢ bigSep Finset.univ fun c : Dev nD => atPos ER (cell c .bar) 0 ∅ 0 :=
  Entails.of_eq (bigSep_map (s := Finset.univ) barEmb (Φ := fun g : GSem nD τ sig => (atPos ER g 0 ∅ 0 : sProp 𝕄)))
theorem openings : bigSep scCells (fun g => (openTok ER g : sProp 𝕄))
    ⊢ bigSep Finset.univ fun c : Dev nD => bigSep Finset.univ fun i : Fin 11 => openTok ER (cell c (scKind i)) :=
  Entails.of_eq (by rw [bigSep_map, bigSep_univ_prod]; rfl)

theorem launch_all : iprop((bigSep Finset.univ fun c : Dev nD => launched m ρ c) ∗ levAts L lv)
    ⊢ (|={Set.univ}=> bigSep Finset.univ (T₀ m) : sProp 𝕄) := by
  iintro ⟨H, -⟩
  ihave H := (show (bigSep Finset.univ fun c : Dev nD => launched m ρ c)
      ⊢ (bigSep Finset.univ fun c : Dev nD => iprop(bundle m c ∗ semVal (cell c .bar) 0 ∗ G c) : sProp 𝕄)
    from bigSep_mono fun c _ => launched_parts m ρ c) $$ H
  ihave H := Smoke.bigSep_unpair $$ H
  icases H with ⟨HB, H⟩
  ihave H := Smoke.bigSep_unpair $$ H
  icases H with ⟨Hv, HG⟩
  ihave Hu := (Entails.of_eq (bigSep_G (F := F))) $$ HG
  ihave Hv := (bar_sems (F := F)) $$ Hv
  imod (Rounds.fund_launch ER (talk (inp m)) cells_disjoint (fun g _ h => h) talkToks) $$ [Hv Hu] with ⟨%K, -, #HI, #HR, Hat, Ho, Ht⟩
  · isplitl [Hv]; · iexact Hv
    iexact Hu
  imodintro
  iapply (bigSep_with_persistent (R := records (inp m) K) (Φ := fun c => iprop(linear c ∗ bundle m c)) fun c _ => T₀_intro m K c)
  isplitr
  · iapply (records_of (inp m) K)
    isplitr; · iexact HI
    iexact HR
  iapply Smoke.bigSep_pair
  isplitr [HB]
  · unfold linear
    iapply Smoke.bigSep_pair; isplitl [Hat]; · iapply (bar_places (F := F)) $$ Hat
    iapply Smoke.bigSep_pair; isplitl [Ho]; · iapply (openings (F := F)) $$ Ho
    iapply (deal_toks (F := F)) $$ Ht
  iexact HB

/-! ## The run -/

set_option backward.isDefEq.respectTransparency.types false in
/-- Every device ends with each of its unscoped arrays at `final`, and every semaphore of the mesh is back at zero. -/
theorem run : θ_run defs (onTc (τ := τ) (main (F := F))) ⟨m, fun _ => 0, ρ⟩
    (fun r => (∀ (c : Dev nD), ∀ b ∈ bufs, r.2.mem (c, b) = final m c b) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; exact BI.Entails.refl _)
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [bigSep_G]
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => reg_pre m c, fun c => reg_post m c, fun c => ?_⟩
      show iprop(StableHlo.held (c : Thread nD τ) bufs (final m c)
          ∗ (semVal (cell c .bar) 0 ∗ ∃ W, owes (c : Thread nD τ) (0 : CellTallies nD τ sig Unit) W))
        ⊢ iprop(Tₙ m c ∗ ∃ W, owes (c : Thread nD τ) (0 : CellTallies nD τ sig Unit) W)
      iintro ⟨Hh, Hb, HO⟩
      isplitr [HO]
      · isplitl [Hh]; · iexact Hh
        iexact Hb
      iexact HO)
    (hinit := launch_all m ρ)
    (QY := fun c s => (∀ b ∈ bufs, s.mem (c, b) = final m c b) ∧ s.sem (cell c .bar) = 0)
    (hfin := fun c s' => by
      dsimp only [Tₙ]
      unfold StableHlo.held
      iintro ⟨⟨Hh, Hb⟩, HSI⟩
      icombine HSI Hb gives %hb
      ihave %h := (SI_pointsTo_bufs_agree (st := s') (c := c) (qs := fun _ => fullShare) (F := final m c) bufs) $$ [HSI Hh]
      · isplitl [HSI]; · iexact HSI
        iexact Hh
      imodintro
      isplitr
      · ipureintro
        exact ⟨h, by simpa using hb⟩
      iexact HSI)
    (hQ := fun s h hs => ⟨fun c => (h c).1, sem_eq_zero hs fun c sm hsm => by
      obtain rfl := unscoped_bar sm hsm
      exact (h c).2⟩)

end Cert.KernelIdeal.Talk

end
-- ==== Proof.KI.Ends.lean ====
/- What the run leaves, in terms of what the program was launched with: the arguments as they were, and in the result the
   merged rows through the last matrix. -/
module

public import proofs.«01_k».proof.Proof.KI.Run

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

variable (ρ : Dev nD → PrngReg)

/-- What device `c`'s array `b` held at launch. -/
abbrev at0 (c : Dev nD) (b : Ref sig .tc) : b.ty.Contents (Elt F) := m ((c : Thread nD τ).loc b)

/-! ## The arguments -/

def args : List (Ref sig .tc) := [main_arg0, main_arg1, main_arg2, main_arg3, main_arg4]

theorem args_off0 : ∀ b ∈ args, ∀ r ∈ ([main_v1, main_v2, main_v3, main_v4] : List (Ref sig .tc)), b ≠ r := by decide
theorem args_off1 : ∀ b ∈ args, ∀ r ∈ ([main_v6, main_v7] : List (Ref sig .tc)), b ≠ r := by decide
theorem args_unread : ∀ b ∈ args, b ≠ main_v5 := by decide
theorem args_bufs : ∀ b ∈ main_v7 :: args, (Proc.devRef .tc b : DevRef τ sig) ∈ bufs := by decide

theorem V0_arg (c : Dev nD) (b : Ref sig .tc) (hb : b ∈ args) : V0 m c (Proc.devRef .tc b) = at0 m c b :=
  StableHlo.after_of_forall_not_mem (b := Proc.devRef .tc b) _ _ (List.forall_iff_forall_mem.mp (by
    have h := args_off0 b hb
    simp only [List.flatten_cons, List.flatten_nil, List.append_nil, List.Forall, StableHlo.unary_writes, StableHlo.binary_writes,
      StableHlo.reshape_writes, Finset.mem_singleton]
    exact ⟨StableHlo.devRef_ne_of_ne (h _ (by decide)), StableHlo.devRef_ne_of_ne (h _ (by decide)),
      StableHlo.devRef_ne_of_ne (h _ (by decide)), StableHlo.devRef_ne_of_ne (h _ (by decide))⟩))

theorem final_off (c : Dev nD) (b : Ref sig .tc) (hb : b ∈ args) : final m c (Proc.devRef .tc b) = after0 m c (Proc.devRef .tc b) :=
  StableHlo.after_of_forall_not_mem (b := Proc.devRef .tc b) _ _ (List.forall_iff_forall_mem.mp (by
    have h := args_off1 b hb
    simp only [List.Forall, StableHlo.binary_writes, StableHlo.reshape_writes, Finset.mem_singleton]
    exact ⟨StableHlo.devRef_ne_of_ne (h _ (by decide)), StableHlo.devRef_ne_of_ne (h _ (by decide))⟩))

theorem args_windows : ∀ b ∈ args, ∀ w, Pipeline.arrRef spec0 w ≠ b := by decide

theorem after0_arg (c : Dev nD) (b : Ref sig .tc) (hb : b ∈ args) : after0 m c (Proc.devRef .tc b) = at0 m c b :=
  (Pipeline.withArrays_of_ne spec0 c (V0 m c) _ b (args_windows b hb)).trans (V0_arg m c b hb)

theorem final_arg (c : Dev nD) (b : Ref sig .tc) (hb : b ∈ args) : final m c (Proc.devRef .tc b) = at0 m c b :=
  (final_off m c b hb).trans (after0_arg m c b hb)

/-! ## What the call reads -/

theorem inp_q (c : Dev nD) : (inp m).q c = Host.dotGeneral dot_S256x512_S512x256_S256x256_1_0_0_1_n_n none
    (shapeCast S256x512 (at0 m c main_arg0) shapeCasts_S2x128x512_S256x512) (at0 m c main_arg1) := by
  show StableHlo.after hostOps0 (fun b => m (c, b)) (Proc.devRef .tc main_v2) = _
  after_results
  rfl

theorem inp_kt (c : Dev nD) : (inp m).kt c = transpose S2x4x64x128 [0, 2, 3, 1] (at0 m c main_arg2) transposes_S2x128x4x64_S2x4x64x128_0_2_3_1 := by
  show StableHlo.after hostOps0 (fun b => m (c, b)) (Proc.devRef .tc main_v3) = _
  after_results

theorem inp_vt (c : Dev nD) : (inp m).vt c = transpose S2x4x64x128 [0, 2, 3, 1] (at0 m c main_arg3) transposes_S2x128x4x64_S2x4x64x128_0_2_3_1 := by
  show StableHlo.after hostOps0 (fun b => m (c, b)) (Proc.devRef .tc main_v4) = _
  after_results

/-! ## The result -/

/-- The merged rows through the output matrix `wo`, as the program's result. -/
def out (x : Inp F) (wo : S256x512.Idx → Elt F .f32) : S2x128x512.Idx → Elt F .f32 :=
  shapeCast S2x128x512 (Host.dotGeneral dot_S256x256_S256x512_S256x512_1_0_0_1_n_n none (res x) wo) shapeCasts_S256x512_S2x128x512

theorem final_out (c : Dev nD) : final m c (Proc.devRef .tc main_v7) = out (inp m) (at0 m c main_arg4) := by
  have h5 : after0 m c (Proc.devRef .tc main_v5) = res (inp m) := (after0_arr m c 3).symm.trans (arr_res m c)
  have h4 := after0_arg m c main_arg4 (by decide)
  unfold final
  after_results
  rw [h5, h4]
  rfl

/-- The run: every device's arguments are as they were and its result is `out`; every semaphore is back at zero. -/
theorem run_out : θ_run defs (onTc (τ := τ) (main (F := F))) ⟨m, fun _ => 0, ρ⟩
    (fun r => (∀ c : Dev nD, r.2.mem ((c : Thread nD τ).loc main_v7) = out (inp m) (at0 m c main_arg4)
        ∧ ∀ b ∈ args, r.2.mem ((c : Thread nD τ).loc b) = at0 m c b) ∧ r.2.sem = fun _ => 0) :=
  (θ_run defs _ _).mono (fun r h => ⟨fun c =>
    ⟨(h.1 c _ (args_bufs _ List.mem_cons_self)).trans (final_out m c),
      fun b hb => (h.1 c _ (args_bufs b (List.mem_cons_of_mem _ hb))).trans (final_arg m c b hb)⟩, h.2⟩) (run m ρ)

end Cert.KernelIdeal.Talk

end
-- ==== Proof.Math.Soft.lean ====
/- A softmax over keys cut in blocks, over the extended reals: two blocks' partial results, each relative to its own
   maximum, merge to the whole row's weighted average. Scores are real or `−∞` (a masked key); the values averaged are
   any extended reals. -/
module

public import Idealize.ShloMosaic.PureOps.Ideal
public import Idealize.ShloMosaic.PureOps.Ideal.Laws

@[expose] public section

noncomputable section

namespace Cert.Attn

open Idealize.ShloMosaic

/-- The weight of a score before any shift: `0` of a masked key, `e ^ s` of a real score. -/
def u (s : EReal) : ℝ := if s = ⊥ then 0 else Real.exp s.toReal

theorem u_nonneg (s : EReal) : 0 ≤ u s := by
  unfold u; split
  · exact le_rfl
  · exact (Real.exp_pos _).le

theorem u_pos {s : EReal} (h : s ≠ ⊥) : 0 < u s := by
  unfold u; rw [if_neg h]; exact Real.exp_pos _

/-- A shifted score's weight is the unshifted one times `e ^ (−a)`. -/
theorem exp_shift {s : EReal} (h : s ≠ ⊤) (a : ℝ) : Ideal.exp (s - (a : EReal)) = ((u s * Real.exp (-a) : ℝ) : EReal) := by
  unfold u
  induction s using EReal.rec with
  | bot => simp
  | top => exact absurd rfl h
  | coe r =>
    rw [if_neg (EReal.coe_ne_bot r), ← EReal.coe_sub, Ideal.exp_coe, EReal.toReal_coe, ← Real.exp_add, sub_eq_add_neg]

section Row

variable {ι : Type} [Fintype ι]

/-- The maximum of a row of scores. -/
def top (s : ι → EReal) : EReal := Finset.univ.fold max ⊥ s

theorem top_eq_sup (s : ι → EReal) : top s = Finset.univ.sup s := rfl

/-- A row with an unmasked key has a real maximum. -/
theorem top_real {s : ι → EReal} (hs : ∀ i, s i ≠ ⊤) (h : ∃ i, s i ≠ ⊥) : ∃ a : ℝ, top s = (a : EReal) := by
  obtain ⟨i, hi⟩ := h
  have hb : top s ≠ ⊥ := fun e => hi (le_bot_iff.1 (e ▸ top_eq_sup s ▸ Finset.le_sup (Finset.mem_univ i)))
  have ht : top s ≠ ⊤ := by
    rw [top_eq_sup]
    exact ne_of_lt ((Finset.sup_lt_iff (bot_lt_top)).2 fun j _ => lt_top_iff_ne_top.2 (hs j))
  exact ⟨(top s).toReal, (EReal.coe_toReal ht hb).symm⟩

/-- The row's total unshifted weight. -/
def tot (s : ι → EReal) : ℝ := ∑ i, u (s i)

theorem tot_pos {s : ι → EReal} (h : ∃ i, s i ≠ ⊥) : 0 < tot s := by
  obtain ⟨i, hi⟩ := h
  exact Finset.sum_pos' (fun j _ => u_nonneg _) ⟨i, Finset.mem_univ i, u_pos hi⟩

theorem coe_sum {κ : Type} (S : Finset κ) (f : κ → ℝ) : ((∑ i ∈ S, f i : ℝ) : EReal) = ∑ i ∈ S, (f i : EReal) := by
  induction S using Finset.cons_induction with
  | empty => simp
  | cons a S ha ih => rw [Finset.sum_cons, Finset.sum_cons, EReal.coe_add, ih]

/-- The row's sum of weights relative to a real shift. -/
theorem sum_shift {s : ι → EReal} (hs : ∀ i, s i ≠ ⊤) (a : ℝ) :
    ∑ i, Ideal.exp (s i - (a : EReal)) = ((tot s * Real.exp (-a) : ℝ) : EReal) := by
  unfold tot
  rw [Finset.sum_mul, coe_sum]
  exact Finset.sum_congr rfl fun i _ => exp_shift (hs i) a

/-- A nonnegative real factor goes into a sum of extended reals. -/
theorem sum_mul_real {κ : Type} (S : Finset κ) (f : κ → EReal) {c : ℝ} (hc : 0 ≤ c) :
    (∑ i ∈ S, f i) * (c : EReal) = ∑ i ∈ S, f i * (c : EReal) := by
  induction S using Finset.cons_induction with
  | empty => simp
  | cons a S ha ih =>
    rw [Finset.sum_cons, Finset.sum_cons, ← ih]
    exact EReal.right_distrib_of_nonneg_of_ne_top (EReal.coe_nonneg.2 hc) (EReal.coe_ne_top c) _ _

end Row

/-! ## Keys in four blocks of 128 -/

/-- Key `k` of block `c`. -/
abbrev blk (c : Fin 4) (k : Fin 128) : Fin 512 := ⟨c.val * 128 + k.val, by omega⟩

/-- A sum over all the keys, block by block. -/
theorem sum_blk {M : Type} [AddCommMonoid M] (f : Fin 512 → M) :
    ∑ k, f k = ∑ c : Fin 4, ∑ k : Fin 128, f (blk c k) := by
  rw [← Fintype.sum_prod_type' (f := fun (c : Fin 4) (k : Fin 128) => f (blk c k))]
  refine (Fintype.sum_equiv (finProdFinEquiv : Fin 4 × Fin 128 ≃ Fin 512) _ _ fun p => ?_).symm
  refine congrArg f (Fin.ext ?_)
  show p.1.val * 128 + p.2.val = p.2.val + 128 * p.1.val
  omega

/-- What one block contributes before normalising: its weights relative to `m`, times the values. -/
def part (s v : Fin 128 → EReal) (m : EReal) : EReal := ∑ k, Ideal.exp (s k - m) * v k

/-- A whole row's softmax average: the weights relative to the row's maximum, normalised, times the values. -/
def whole (s v : Fin 512 → EReal) : EReal :=
  ∑ k, v k * Ideal.div (Ideal.exp (s k - top s)) (∑ j, Ideal.exp (s j - top s))

/-- The two blocks' merge. -/
def merged (m0 m1 s0 s1 o0 o1 : EReal) : EReal :=
  o0 * Ideal.div (Ideal.exp (m0 - max m0 m1)) (s0 * Ideal.exp (m0 - max m0 m1) + s1 * Ideal.exp (m1 - max m0 m1))
    + o1 * Ideal.div (Ideal.exp (m1 - max m0 m1)) (s0 * Ideal.exp (m0 - max m0 m1) + s1 * Ideal.exp (m1 - max m0 m1))

/-- A block's part, scaled by its real factor, in unshifted weights. -/
theorem part_mul {s v : Fin 128 → EReal} (hs : ∀ k, s k ≠ ⊤) (a : ℝ) {c : ℝ} (hc : 0 ≤ c) :
    part s v (a : EReal) * (c : EReal) = ∑ k, ((u (s k) * Real.exp (-a) * c : ℝ) : EReal) * v k := by
  unfold part
  rw [sum_mul_real _ _ hc]
  refine Finset.sum_congr rfl fun k _ => ?_
  rw [exp_shift (hs k) a, EReal.coe_mul (u (s k) * Real.exp (-a)) c, mul_right_comm]

/-- The whole row's average in unshifted weights. -/
theorem whole_eq {s v : Fin 512 → EReal} (hs : ∀ k, s k ≠ ⊤) (h : ∃ k, s k ≠ ⊥) :
    whole s v = ∑ k, ((u (s k) / tot s : ℝ) : EReal) * v k := by
  obtain ⟨A, hA⟩ := top_real hs h
  have hU := tot_pos h
  have hE := Real.exp_pos (-A)
  unfold whole
  rw [hA, sum_shift hs A]
  refine Finset.sum_congr rfl fun k _ => ?_
  rw [exp_shift (hs k) A, Ideal.div_coe (mul_pos hU hE).ne', ← EReal.coe_mul, mul_comm]
  congr 2
  field_simp

/-- Two blocks' merge, where their maxima `a`, `b` and weights `U`, `W` are real. -/
theorem merged_real {s t v w : Fin 128 → EReal} (hs : ∀ k, s k ≠ ⊤) (ht : ∀ k, t k ≠ ⊤) (a b : ℝ) {U W : ℝ}
    (hU : 0 < U) (hW : 0 < W) :
    merged (a : EReal) (b : EReal) ((U * Real.exp (-a) : ℝ) : EReal) ((W * Real.exp (-b) : ℝ) : EReal)
        (part s v (a : EReal)) (part t w (b : EReal))
      = ∑ k, ((u (s k) / (U + W) : ℝ) : EReal) * v k + ∑ k, ((u (t k) / (U + W) : ℝ) : EReal) * w k := by
  unfold merged
  obtain ⟨g, hg⟩ : ∃ g : ℝ, max (a : EReal) (b : EReal) = (g : EReal) :=
    (max_choice (a : EReal) (b : EReal)).elim (fun e => ⟨a, e⟩) (fun e => ⟨b, e⟩)
  have hD : ((U * Real.exp (-a) : ℝ) : EReal) * ((Real.exp (a - g) : ℝ) : EReal)
      + ((W * Real.exp (-b) : ℝ) : EReal) * ((Real.exp (b - g) : ℝ) : EReal) = (((U + W) * Real.exp (-g) : ℝ) : EReal) := by
    rw [← EReal.coe_mul, ← EReal.coe_mul, ← EReal.coe_add]
    congr 1
    rw [mul_assoc, mul_assoc, ← Real.exp_add, ← Real.exp_add, show -a + (a - g) = -g by ring, show -b + (b - g) = -g by ring]
    ring
  have hpos : 0 < (U + W) * Real.exp (-g) := mul_pos (add_pos hU hW) (Real.exp_pos _)
  have key : ∀ x t : ℝ, x * Real.exp (-t) * (Real.exp (t - g) * (1 / ((U + W) * Real.exp (-g)))) = x / (U + W) := by
    intro x t
    have e : Real.exp (t - g) = Real.exp t * Real.exp (-g) := by rw [← Real.exp_add, sub_eq_add_neg]
    have e' : Real.exp (-t) * Real.exp t = 1 := by rw [← Real.exp_add]; simp
    have h1 := (Real.exp_pos (-g)).ne'
    have h2 := (add_pos hU hW).ne'
    rw [e]
    field_simp
    linear_combination x * e'
  rw [hg, ← EReal.coe_sub, ← EReal.coe_sub, Ideal.exp_coe, Ideal.exp_coe, hD, Ideal.div_coe hpos.ne', Ideal.div_coe hpos.ne',
    ← EReal.coe_mul, ← EReal.coe_mul, part_mul hs a (mul_nonneg (Real.exp_pos _).le (one_div_pos.2 hpos).le),
    part_mul ht b (mul_nonneg (Real.exp_pos _).le (one_div_pos.2 hpos).le)]
  simp only [key]

/-- Where only blocks 0 and 2 have unmasked keys, their parts merge to the whole row's average. -/
theorem merge_eq {s v : Fin 512 → EReal} (hs : ∀ k, s k ≠ ⊤) (h0 : ∃ k, s (blk 0 k) ≠ ⊥) (h2 : ∃ k, s (blk 2 k) ≠ ⊥)
    (h1 : ∀ k, s (blk 1 k) = ⊥) (h3 : ∀ k, s (blk 3 k) = ⊥) :
    merged (top fun k => s (blk 0 k)) (top fun k => s (blk 2 k))
        (∑ k, Ideal.exp (s (blk 0 k) - top fun k => s (blk 0 k))) (∑ k, Ideal.exp (s (blk 2 k) - top fun k => s (blk 2 k)))
        (part (fun k => s (blk 0 k)) (fun k => v (blk 0 k)) (top fun k => s (blk 0 k)))
        (part (fun k => s (blk 2 k)) (fun k => v (blk 2 k)) (top fun k => s (blk 2 k)))
      = whole s v := by
  have u0 : ∀ {x : EReal}, x = ⊥ → u x = 0 := fun e => by unfold u; rw [if_pos e]
  have hT : tot s = tot (fun k => s (blk 0 k)) + tot (fun k => s (blk 2 k)) := by
    unfold tot
    rw [sum_blk, Fin.sum_univ_four, Finset.sum_eq_zero (fun k _ => u0 (h1 k)), Finset.sum_eq_zero (fun k _ => u0 (h3 k))]
    ring
  rw [whole_eq hs (h0.imp' (blk 0) fun _ => id), hT, sum_blk, Fin.sum_univ_four]
  have z : ∀ (c : Fin 4), (∀ k, s (blk c k) = ⊥) →
      ∑ k, ((u (s (blk c k)) / (tot (fun k => s (blk 0 k)) + tot (fun k => s (blk 2 k))) : ℝ) : EReal) * v (blk c k) = 0 :=
    fun c h => Finset.sum_eq_zero fun k _ => by rw [u0 (h k), zero_div, EReal.coe_zero, zero_mul]
  rw [z 1 h1, z 3 h3, add_zero, add_zero]
  obtain ⟨a, ha⟩ := top_real (fun k => hs (blk 0 k)) h0
  obtain ⟨b, hb⟩ := top_real (fun k => hs (blk 2 k)) h2
  rw [ha, hb, sum_shift (fun k => hs (blk 0 k)) a, sum_shift (fun k => hs (blk 2 k)) b]
  exact merged_real (fun k => hs (blk 0 k)) (fun k => hs (blk 2 k)) a b (tot_pos h0) (tot_pos h2)

end Cert.Attn

end
-- ==== Proof.Math.Consts.lean ====
/- The float words the two programs spell, as extended reals. -/
module

public import Idealize.ShloMosaic.PureOps.Ideal
public import Idealize.ShloMosaic.PureOps.Ideal.Laws

@[expose] public section

noncomputable section

namespace Cert.Attn

open Idealize.ShloMosaic

theorem word_eighth : Ideal.ofBits .f32 0x3E000000#32 = ((1 / 8 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_bot : Ideal.ofBits .f32 0xFF800000#32 = ⊥ := by
  simp [Ideal.ofBits, Ideal.ieee]
theorem word_top : Ideal.ofBits .f32 0x7F800000#32 = ⊤ := by
  simp [Ideal.ofBits, Ideal.ieee]
theorem word_zero : Ideal.ofBits .f32 0x00000000#32 = 0 := Ideal.ofBits_zero_f32

end Cert.Attn

end
-- ==== Proof.Math.RefMask.lean ====
/- The reference's mask: which of the 512 keys each query row sees, and that every row sees some. -/
module

public import proofs.«01_k».proof.Proof.Gen.ReferenceIdeal.Read

@[expose] public section

noncomputable section

namespace Cert.Attn

open Idealize.ShloMosaic
open Idealize.ShloMosaic.ValueIdx
open Cert.ReferenceIdeal Cert.ReferenceIdeal.Gen Cert.ReferenceIdeal.Read

/-- Query `q` sees key `k`: the same block of 64, or the same block modulo four. -/
abbrev sees (q : Fin 128) (k : Fin 512) : Prop := q.val / 64 = k.val / 64 ∨ k.val / 64 % 4 = q.val / 64

theorem v3_val (q : Fin 128) : val_main_v3 (F := Ideal) (ix1 q) = BitVec.ofNat 32 (q.val / 64) := by
  revert q; decide +kernel
theorem v6_val (k : Fin 512) : val_main_v6 (F := Ideal) (ix1 k) = BitVec.ofNat 32 (k.val / 64) := by
  revert k; decide +kernel
theorem v11_val (k : Fin 512) : val_main_v11 (F := Ideal) (ix2 (0 : Fin 1) k) = BitVec.ofNat 32 (k.val / 64 % 4) := by
  revert k; decide +kernel
theorem v12_val (q : Fin 128) : val_main_v12 (F := Ideal) (ix2 q (0 : Fin 1)) = BitVec.ofNat 32 (q.val / 64) := by
  revert q; decide +kernel

theorem sees_cases : ∀ (a : Fin 2) (b : Fin 8),
    IntOp.ori (IntOp.cmpi .eq (BitVec.ofNat 32 a.val) (BitVec.ofNat 32 b.val))
      (IntOp.cmpi .eq (BitVec.ofNat 32 (b.val % 4)) (BitVec.ofNat 32 a.val))
      = if a.val = b.val ∨ b.val % 4 = a.val then 1#1 else 0#1 := by
  decide +kernel

/-- The mask at a position. -/
theorem mask_apply (q : Fin 128) (k : Fin 512) :
    val_main_v16 (F := Ideal) (ix2 q k) = if sees q k then 1#1 else 0#1 := by
  rw [val_main_v16_apply, val_main_v10_apply, val_main_v15_apply, val_main_v8_apply, val_main_v9_apply, val_main_v13_apply,
    val_main_v14_apply, val_main_v4_apply, val_main_v7_apply]
  have e1 : idx_main_v4 (idx_main_v8 (ix2 q k)) = ix1 q := funext fun a => Fin.ext (by match a with | ⟨0, _⟩ => rfl)
  have e2 : idx_main_v7 (idx_main_v9 (ix2 q k)) = ix1 k := funext fun a => Fin.ext (by match a with | ⟨0, _⟩ => rfl)
  have e3 : idx_main_v13 (ix2 q k) = ix2 (0 : Fin 1) k := funext fun a => Fin.ext (by match a with | ⟨0, _⟩ => rfl | ⟨1, _⟩ => rfl)
  have e4 : idx_main_v14 (ix2 q k) = ix2 q (0 : Fin 1) := funext fun a => Fin.ext (by match a with | ⟨0, _⟩ => rfl | ⟨1, _⟩ => rfl)
  rw [e1, e2, e3, e4, v3_val, v6_val, v11_val, v12_val]
  exact sees_cases ⟨q.val / 64, by omega⟩ ⟨k.val / 64, by omega⟩

/-- A disjunction with a true member is true. -/
theorem fold_ori_one (b : BitVec 1) (f : Fin 512 → BitVec 1) (k : Fin 512) (h : f k = 1#1) :
    Finset.univ.fold IntOp.ori b f = 1#1 := by
  rw [← Finset.insert_erase (Finset.mem_univ k), Finset.fold_insert (Finset.notMem_erase _ _), h]
  exact (by decide : ∀ b : BitVec 1, IntOp.ori 1#1 b = 1#1) _

theorem reduces_keys : S128x512.Reduces [1] S128 := by decide

/-- Every query row sees a key. -/
theorem row_sees (q : Fin 128) : val_main_v27 (F := Ideal) (ix1 q) = 1#1 := by
  unfold val_main_v27
  rw [Host.reduce_eq_fold_single IntOp.ori _ _ _ reduces_keys]
  refine fold_ori_one _ _ (⟨q.val, by omega⟩ : Fin 512) ?_
  exact (congrArg (val_main_v16 (F := Ideal)) (show _ = ix2 q (⟨q.val, by omega⟩ : Fin 512) from
    funext fun a => Fin.ext (by match a with | ⟨0, _⟩ => rfl | ⟨1, _⟩ => rfl))).trans ((mask_apply q _).trans (if_pos (.inl rfl)))

end Cert.Attn

end
-- ==== Proof.Math.Ref.lean ====
/- The reference's value, position by position: masked scaled scores against all 512 keys, a softmax of each row, the
   weighted values, and the last matrix. -/
module

public import proofs.«01_k».proof.Proof.Math.Soft
public import proofs.«01_k».proof.Proof.Math.Consts
public import proofs.«01_k».proof.Proof.Math.RefMask

@[expose] public section

noncomputable section

namespace Cert.Attn

open Idealize.ShloMosaic
open Idealize.ShloMosaic.ValueIdx
open Cert.ReferenceIdeal Cert.ReferenceIdeal.Gen Cert.ReferenceIdeal.Read

variable (x0 : (⟨S2x128x512, .f32⟩ : BufTy).Contents (Elt Ideal)) (x1 : (⟨S512x256, .f32⟩ : BufTy).Contents (Elt Ideal))
  (x2 x3 : (⟨S2x512x4x64, .f32⟩ : BufTy).Contents (Elt Ideal)) (x4 : (⟨S256x512, .f32⟩ : BufTy).Contents (Elt Ideal))

/-- The projected queries. -/
def proj (b : Fin 2) (r : Fin 128) (e : Fin 256) : EReal := ∑ k : Fin 512, x0 (ix3 b r k) * x1 (ix2 k e)

/-- The masked scaled score of query row `r` against key `k`, in batch `b` and head `h`. -/
def rscore (b : Fin 2) (h : Fin 4) (r : Fin 128) (k : Fin 512) : EReal :=
  if sees r k then
    (∑ d : Fin 64, proj x0 x1 b r (⟨h.val * 64 + d.val, by omega⟩ : Fin 256) * x2 (ix4 b k h d)) * ((1 / 8 : ℝ) : EReal)
  else ⊥

/-- The attention's output, before the last matrix. -/
def attn (b : Fin 2) (h : Fin 4) (r : Fin 128) (d : Fin 64) : EReal :=
  whole (rscore x0 x1 x2 b h r) (fun k => x3 (ix4 b k h d))

theorem q_apply (b : Fin 2) (r : Fin 128) (h : Fin 4) (d : Fin 64) :
    val_main_v1 (F := Ideal) x0 x1 (ix4 b r h d) = proj x0 x1 b r (⟨h.val * 64 + d.val, by omega⟩ : Fin 256) := by
  rw [val_main_v1_apply, val_main_v0_apply]
  unfold proj
  refine Finset.sum_congr rfl fun k _ => congrArg₂ (· * ·) (congrArg x0 ?_) (congrArg x1 ?_)
  · funext a
    refine Fin.ext ?_
    match a with
    | ⟨0, _⟩ => show (((b.val * 128 + r.val) * 4 + h.val) * 64 + d.val) / 32768 = b.val; omega
    | ⟨1, _⟩ => show (((b.val * 128 + r.val) * 4 + h.val) * 64 + d.val) / 256 % 128 = r.val; omega
    | ⟨2, _⟩ => rfl
  · funext a
    refine Fin.ext ?_
    match a with
    | ⟨0, _⟩ => rfl
    | ⟨1, _⟩ => show (((b.val * 128 + r.val) * 4 + h.val) * 64 + d.val) % 256 = h.val * 64 + d.val; omega

/-- The masked scores. -/
theorem v21_val (b : Fin 2) (h : Fin 4) (r : Fin 128) (k : Fin 512) :
    val_main_v21 (F := Ideal) x0 x1 x2 (ix4 b h r k) = rscore x0 x1 x2 b h r k := by
  have em : val_main_call4_v1 (F := Ideal) (ix4 b h r k) = if sees r k then 1#1 else 0#1 := by
    rw [val_main_call4_v1_apply, val_main_v20_apply, ← mask_apply]
    exact congrArg _ (funext fun a => Fin.ext (by match a with | ⟨0, _⟩ => rfl | ⟨1, _⟩ => rfl))
  rw [val_main_v21_apply, em]
  unfold rscore
  split
  · rw [select_one, val_main_v19_apply, val_main_v17_apply, val_main_v18_apply, val_main_cst_apply]
    refine congrArg₂ (· * ·) (Finset.sum_congr rfl fun d _ => congrArg₂ (· * ·) ?_ (congrArg x2 ?_)) word_eighth
    · rw [← q_apply]
      exact congrArg _ (funext fun a => Fin.ext (by match a with | ⟨0, _⟩ => rfl | ⟨1, _⟩ => rfl | ⟨2, _⟩ => rfl | ⟨3, _⟩ => rfl))
    · exact funext fun a => Fin.ext (by match a with | ⟨0, _⟩ => rfl | ⟨1, _⟩ => rfl | ⟨2, _⟩ => rfl | ⟨3, _⟩ => rfl)
  · rw [select_zero, val_main_call4_v2_apply, val_main_call4_v0_apply, val_main_cst_3_apply]
    exact word_bot

theorem reduces_scores : S2x4x128x512.Reduces [3] S2x4x128 := by decide

/-- The rows' maxima. -/
theorem v22_val (b : Fin 2) (h : Fin 4) (r : Fin 128) :
    val_main_v22 (F := Ideal) x0 x1 x2 (ix3 b h r) = top (rscore x0 x1 x2 b h r) := by
  unfold val_main_v22 top
  rw [Host.reduce_eq_fold_single FloatOps.maximumf _ _ _ reduces_scores, val_main_cst_4_apply,
    show FloatOps.ofBits (F := Ideal) .f32 0xFF800000#32 = (⊥ : EReal) from word_bot]
  refine congrArg (Finset.univ.fold max ⊥) (funext fun k => ?_)
  exact (congrArg (val_main_v21 (F := Ideal) x0 x1 x2) (show _ = ix4 b h r k from
    funext fun a => Fin.ext (by match a with | ⟨0, _⟩ => rfl | ⟨1, _⟩ => rfl | ⟨2, _⟩ => rfl | ⟨3, _⟩ => rfl))).trans
      (v21_val x0 x1 x2 b h r k)

/-- The weights relative to the row's maximum. -/
theorem v26_val (b : Fin 2) (h : Fin 4) (r : Fin 128) (k : Fin 512) :
    val_main_v26 (F := Ideal) x0 x1 x2 (ix4 b h r k)
      = Ideal.exp (rscore x0 x1 x2 b h r k - top (rscore x0 x1 x2 b h r)) := by
  rw [val_main_v26_apply, val_main_v25_apply, v21_val, val_main_v24_apply, val_main_v23_apply]
  refine congrArg (fun z => Ideal.exp (rscore x0 x1 x2 b h r k - z)) ?_
  rw [← v22_val]
  exact congrArg _ (funext fun a => Fin.ext (by match a with | ⟨0, _⟩ => rfl | ⟨1, _⟩ => rfl | ⟨2, _⟩ => rfl))

/-- Their sums. -/
theorem v29_val (b : Fin 2) (h : Fin 4) (r : Fin 128) :
    val_main_v29 (F := Ideal) x0 x1 x2 (ix3 b h r)
      = ∑ k, Ideal.exp (rscore x0 x1 x2 b h r k - top (rscore x0 x1 x2 b h r)) := by
  rw [val_main_v29_apply, val_main_cst_6_apply]
  refine (congrArg (· + _) word_zero).trans ((zero_add _).trans (Finset.sum_congr rfl fun k _ => ?_))
  rw [← v26_val]
  exact congrArg _ (funext fun a => Fin.ext (by match a with | ⟨0, _⟩ => rfl | ⟨1, _⟩ => rfl | ⟨2, _⟩ => rfl | ⟨3, _⟩ => rfl))

/-- The normalised weights. -/
theorem v35_val (b : Fin 2) (h : Fin 4) (r : Fin 128) (k : Fin 512) :
    val_main_v35 (F := Ideal) x0 x1 x2 (ix4 b h r k)
      = Ideal.div (Ideal.exp (rscore x0 x1 x2 b h r k - top (rscore x0 x1 x2 b h r)))
          (∑ j, Ideal.exp (rscore x0 x1 x2 b h r j - top (rscore x0 x1 x2 b h r))) := by
  have e6 : val_main_call6_v1 (F := Ideal) (ix4 b h r k) = 1#1 := by
    rw [val_main_call6_v1_apply, val_main_v34_apply, ← row_sees r]
    exact congrArg _ (funext fun a => Fin.ext (by match a with | ⟨0, _⟩ => rfl))
  have e5 : val_main_call5_v1 (F := Ideal) (idx_main_v32 (ix4 b h r k)) = 1#1 := by
    rw [val_main_call5_v1_apply, val_main_v28_apply, ← row_sees r]
    exact congrArg _ (funext fun a => Fin.ext (by match a with | ⟨0, _⟩ => rfl))
  rw [val_main_v35_apply, e6, select_one, val_main_v33_apply, v26_val, val_main_v32_apply, val_main_v31_apply, e5, select_one,
    val_main_v30_apply]
  refine congrArg (Ideal.div _) ?_
  rw [← v29_val]
  exact congrArg _ (funext fun a => Fin.ext (by match a with | ⟨0, _⟩ => rfl | ⟨1, _⟩ => rfl | ⟨2, _⟩ => rfl))

/-- The weighted values. -/
theorem v36_val (b : Fin 2) (h : Fin 4) (d : Fin 64) (r : Fin 128) :
    val_main_v36 (F := Ideal) x0 x1 x2 x3 (ix4 b h d r) = attn x0 x1 x2 x3 b h r d := by
  rw [val_main_v36_apply]
  unfold attn whole
  refine Finset.sum_congr rfl fun k _ => congrArg₂ (· * ·) (congrArg x3 ?_) ?_
  · exact funext fun a => Fin.ext (by match a with | ⟨0, _⟩ => rfl | ⟨1, _⟩ => rfl | ⟨2, _⟩ => rfl | ⟨3, _⟩ => rfl)
  · rw [← v35_val]
    exact congrArg _ (funext fun a => Fin.ext (by match a with | ⟨0, _⟩ => rfl | ⟨1, _⟩ => rfl | ⟨2, _⟩ => rfl | ⟨3, _⟩ => rfl))

/-- The heads side by side. -/
theorem v38_val (b : Fin 2) (r : Fin 128) (e : Fin 256) :
    val_main_v38 (F := Ideal) x0 x1 x2 x3 (ix3 b r e)
      = attn x0 x1 x2 x3 b (⟨e.val / 64, by omega⟩ : Fin 4) r (⟨e.val % 64, Nat.mod_lt _ (by decide)⟩ : Fin 64) := by
  rw [val_main_v38_apply, val_main_v37_apply, ← v36_val]
  refine congrArg _ (funext fun a => Fin.ext ?_)
  match a with
  | ⟨0, _⟩ => show ((b.val * 128 + r.val) * 256 + e.val) / 32768 = b.val; omega
  | ⟨1, _⟩ => show ((b.val * 128 + r.val) * 256 + e.val) / 64 % 4 = e.val / 64; omega
  | ⟨2, _⟩ => show ((b.val * 128 + r.val) * 256 + e.val) % 64 = e.val % 64; omega
  | ⟨3, _⟩ => show ((b.val * 128 + r.val) * 256 + e.val) / 256 % 128 = r.val; omega

/-- The result. -/
theorem v39_val (b : Fin 2) (r : Fin 128) (j : Fin 512) :
    val_main_v39 (F := Ideal) x0 x1 x2 x3 x4 (ix3 b r j)
      = ∑ e : Fin 256, attn x0 x1 x2 x3 b (⟨e.val / 64, by omega⟩ : Fin 4) r (⟨e.val % 64, Nat.mod_lt _ (by decide)⟩ : Fin 64)
          * x4 (ix2 e j) := by
  rw [val_main_v39_apply]
  refine Finset.sum_congr rfl fun e _ => congrArg₂ (· * ·) ?_ (congrArg x4 ?_)
  · rw [← v38_val]
    exact congrArg _ (funext fun a => Fin.ext (by match a with | ⟨0, _⟩ => rfl | ⟨1, _⟩ => rfl | ⟨2, _⟩ => rfl))
  · exact funext fun a => Fin.ext (by match a with | ⟨0, _⟩ => rfl | ⟨1, _⟩ => rfl)

end Cert.Attn

end
-- ==== Proof.Math.Finite.lean ====
/- Real entries: what the precondition says of the three arrays that the scores are made of, and that the scores of real
   arrays are real where the mask lets a key through. -/
module

public import proofs.«01_k».proof.Pre_scores_finite_KernelIdeal
public import proofs.«01_k».proof.Proof.Math.Ref
public import Idealize.ShloMosaic.Lib.ReduceAll

@[expose] public section

noncomputable section

namespace Cert.Attn

open Idealize.ShloMosaic
open Idealize.ShloMosaic.ValueIdx

/-- An extended real that is a real number. -/
def Real' (e : EReal) : Prop := ∃ a : ℝ, e = (a : EReal)

theorem Real'.mul {a b : EReal} : Real' a → Real' b → Real' (a * b)
  | ⟨x, hx⟩, ⟨y, hy⟩ => ⟨x * y, by rw [hx, hy, EReal.coe_mul]⟩

theorem Real'.sum {κ : Type} [Fintype κ] {f : κ → EReal} (h : ∀ i, Real' (f i)) : Real' (∑ i, f i) := by
  choose g hg using h
  exact ⟨∑ i, g i, by rw [coe_sum]; exact Finset.sum_congr rfl fun i _ => hg i⟩

/-- An entry whose absolute value is below `+∞` is real. -/
theorem real_of_below {a : EReal} (h : Ideal.cmp .olt (max a (-a)) (Ideal.ofBits .f32 0x7F800000#32) = 1#1) : Real' a := by
  rw [word_top] at h
  induction a using EReal.rec with
  | bot => exact absurd h (by simp [Ideal.cmp])
  | top => exact absurd h (by simp [Ideal.cmp])
  | coe r => exact ⟨r, rfl⟩

section Pre

open Cert.Pre_scores_finite_KernelIdeal

instance : Subsingleton S_.Idx := ⟨fun _ _ => funext fun a => a.elim0⟩

/-- Every entry of an array real, from the array's test. -/
theorem real_of_all {s : Shape} {axes : List (Fin s.rank)} (x : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf x) (broadcastInDim s ![] hb (constant S_ .f32 0x7F800000#32)))
      (constantI S_ 1 1#1) hr h0 j = 1#1) (i : s.Idx) : Real' (x i) :=
  real_of_below (Host.reduce_andi_all _ _ hr h0 j h i)

/-- What the precondition says on one device. -/
theorem real_of_pre [Facts] {a0 : FVec Ideal S2x128x512 .f32} {a1 : FVec Ideal S512x256 .f32} {a2 a3 : FVec Ideal S2x128x4x64 .f32}
    {a4 : FVec Ideal S256x512 .f32} (h : fn (F := Ideal) a0 a1 a2 a3 a4 = fun _ => 1#1) :
    (∀ i, Real' (a0 i)) ∧ (∀ i, Real' (a1 i)) ∧ ∀ i, Real' (a2 i) := by
  have e := congrFun h ix0
  obtain ⟨e01, e2⟩ := IntOp.andi_eq_one.1 e
  obtain ⟨e0, e1⟩ := IntOp.andi_eq_one.1 e01
  exact ⟨real_of_all a0 _ _ _ _ e0, real_of_all a1 _ _ _ _ e1, real_of_all a2 _ _ _ _ e2⟩

end Pre

section Scores

variable {x0 : (⟨Cert.ReferenceIdeal.S2x128x512, .f32⟩ : BufTy).Contents (Elt Ideal)}
  {x1 : (⟨Cert.ReferenceIdeal.S512x256, .f32⟩ : BufTy).Contents (Elt Ideal)}
  {x2 : (⟨Cert.ReferenceIdeal.S2x512x4x64, .f32⟩ : BufTy).Contents (Elt Ideal)}
  (h0 : ∀ i, Real' (x0 i)) (h1 : ∀ i, Real' (x1 i)) (h2 : ∀ i, Real' (x2 i))

include h0 h1 h2

/-- The score of a key the row sees is real. -/
theorem rscore_real (b : Fin 2) (h : Fin 4) (r : Fin 128) (k : Fin 512) (hk : sees r k) : Real' (rscore x0 x1 x2 b h r k) := by
  unfold rscore
  rw [if_pos hk]
  exact (Real'.sum fun d => (Real'.sum fun j => (h0 _).mul (h1 _)).mul (h2 _)).mul ⟨_, rfl⟩

theorem rscore_ne_top (b : Fin 2) (h : Fin 4) (r : Fin 128) (k : Fin 512) : rscore x0 x1 x2 b h r k ≠ ⊤ := by
  by_cases hk : sees r k
  · obtain ⟨a, ha⟩ := rscore_real h0 h1 h2 b h r k hk
    rw [ha]; exact EReal.coe_ne_top a
  · unfold rscore
    rw [if_neg hk]; exact bot_ne_top

theorem rscore_ne_bot (b : Fin 2) (h : Fin 4) (r : Fin 128) (k : Fin 512) (hk : sees r k) : rscore x0 x1 x2 b h r k ≠ ⊥ := by
  obtain ⟨a, ha⟩ := rscore_real h0 h1 h2 b h r k hk
  rw [ha]; exact EReal.coe_ne_bot a

end Scores

/-! ## Which keys a row sees, by block -/

theorem sees_blk0 (r k : Fin 128) : sees r (blk 0 k) ↔ r.val / 64 = k.val / 64 := by
  show (r.val / 64 = (0 * 128 + k.val) / 64 ∨ (0 * 128 + k.val) / 64 % 4 = r.val / 64) ↔ _
  omega
theorem sees_blk2 (r k : Fin 128) : sees r (blk 2 k) ↔ r.val / 64 = k.val / 64 := by
  show (r.val / 64 = (2 * 128 + k.val) / 64 ∨ (2 * 128 + k.val) / 64 % 4 = r.val / 64) ↔ _
  omega
theorem unseen_blk1 (r k : Fin 128) : ¬ sees r (blk 1 k) := by
  show ¬ (r.val / 64 = (1 * 128 + k.val) / 64 ∨ (1 * 128 + k.val) / 64 % 4 = r.val / 64)
  omega
theorem unseen_blk3 (r k : Fin 128) : ¬ sees r (blk 3 k) := by
  show ¬ (r.val / 64 = (3 * 128 + k.val) / 64 ∨ (3 * 128 + k.val) / 64 % 4 = r.val / 64)
  omega

end Cert.Attn

end
-- ==== Proof.Math.Masks.lean ====
/- Which keys the kernel lets a query row see: on both of the devices that compute, query `q` sees the device's key `k`
   exactly where the two are in the same half of their 128. -/
module

public import proofs.«01_k».proof.Proof.KI.Contents

@[expose] public section

noncomputable section

namespace Cert.Attn

open Idealize.ShloMosaic
open Idealize.ShloMosaic.ValueIdx
open Cert.KernelIdeal Cert.KernelIdeal.Gen Cert.KernelIdeal.Talk

/-- The first corner of a 128 × 128 array. -/
abbrev o2 : S128x128.Idx := ix2 (0 : Fin 128) (0 : Fin 128)

theorem pay2_val (q : Fin 128) : k0_pay2 (ix2 q (0 : Fin 128)) = BitVec.ofNat 32 (q.val / 64) := by
  revert q; decide +kernel
theorem pay3_val (k : Fin 128) : k0_pay3 (ix2 (0 : Fin 128) k) = BitVec.ofNat 32 (k.val / 64) := by
  revert k; decide +kernel
theorem pay4_val (k : Fin 128) : k0_pay4 (ix2 (0 : Fin 128) k) = if k.val = 0 then 1#1 else 0#1 := by
  revert k; decide +kernel
theorem pay5_val (k : Fin 128) : k0_pay5 (ix2 (0 : Fin 128) k) = BitVec.ofNat 32 (k.val % 64) := by
  revert k; decide +kernel
theorem pay59_val (q : Fin 128) : k0_pay59 (ix2 q (0 : Fin 128)) = BitVec.ofNat 32 (q.val / 64) := by
  revert q; decide +kernel
theorem pay60_val (k : Fin 128) : k0_pay60 (ix2 (0 : Fin 128) k) = BitVec.ofNat 32 (k.val / 64) := by
  revert k; decide +kernel
theorem pay61_val (k : Fin 128) : k0_pay61 (ix2 (0 : Fin 128) k) = if k.val = 0 then 1#1 else 0#1 := by
  revert k; decide +kernel
theorem pay62_val (k : Fin 128) : k0_pay62 (ix2 (0 : Fin 128) k) = BitVec.ofNat 32 (k.val % 64) := by
  revert k; decide +kernel

/-- The mask at a position, from the four arrays' values there. -/
theorem pay6_at (a b : IVec S128x128 32) (c : IVec S128x128 1) (d : IVec S128x128 32) (i : S128x128.Idx) :
    k0_pay6 a b c d 0#32 i = k0_pay6 (fun _ => a i) (fun _ => b i) (fun _ => c i) (fun _ => d i) 0#32 o2 := by
  simp only [k0_pay6, Idealize.ShloMosaic.ori, Idealize.ShloMosaic.cmpi, Idealize.ShloMosaic.select, Idealize.ShloMosaic.addi,
    Idealize.ShloMosaic.subi, Idealize.ShloMosaic.andi, Idealize.ShloMosaic.xori, Idealize.ShloMosaic.remsi, broadcast, broadcastTo]
theorem pay63_at (a b : IVec S128x128 32) (c : IVec S128x128 1) (d : IVec S128x128 32) (i : S128x128.Idx) :
    k0_pay63 a b c d 0#32 i = k0_pay63 (fun _ => a i) (fun _ => b i) (fun _ => c i) (fun _ => d i) 0#32 o2 := by
  simp only [k0_pay63, Idealize.ShloMosaic.ori, Idealize.ShloMosaic.cmpi, Idealize.ShloMosaic.select, Idealize.ShloMosaic.addi,
    Idealize.ShloMosaic.subi, Idealize.ShloMosaic.andi, Idealize.ShloMosaic.xori, Idealize.ShloMosaic.remsi, broadcast, broadcastTo]

/-- Query half `a`, key `k`: the mask's value. -/
theorem pay6_cases : ∀ (a : Fin 2) (k : Fin 128),
    k0_pay6 (fun _ => BitVec.ofNat 32 a.val) (fun _ => BitVec.ofNat 32 (k.val / 64)) (fun _ => if k.val = 0 then 1#1 else 0#1)
      (fun _ => BitVec.ofNat 32 (k.val % 64)) 0#32 o2 = if a.val = k.val / 64 then 1#1 else 0#1 := by
  decide +kernel
theorem pay63_cases : ∀ (a : Fin 2) (k : Fin 128),
    k0_pay63 (fun _ => BitVec.ofNat 32 a.val) (fun _ => BitVec.ofNat 32 (k.val / 64)) (fun _ => if k.val = 0 then 1#1 else 0#1)
      (fun _ => BitVec.ofNat 32 (k.val % 64)) 0#32 o2 = if a.val = k.val / 64 then 1#1 else 0#1 := by
  decide +kernel

theorem half_lt (q : Fin 128) : q.val / 64 < 2 := by omega

/-- The mask of either slot. -/
theorem maskOf_apply (s : Fin 2) (q k : Fin 128) :
    maskOf s (ix2 q k) = if q.val / 64 = k.val / 64 then 1#1 else 0#1 := by
  unfold maskOf
  split
  · rw [pay6_at, show k0_pay2 (ix2 q k) = _ from pay2_val q, show k0_pay3 (ix2 q k) = _ from pay3_val k,
      show k0_pay4 (ix2 q k) = _ from pay4_val k, show k0_pay5 (ix2 q k) = _ from pay5_val k]
    exact pay6_cases ⟨q.val / 64, half_lt q⟩ k
  · rw [pay63_at, show k0_pay59 (ix2 q k) = _ from pay59_val q, show k0_pay60 (ix2 q k) = _ from pay60_val k,
      show k0_pay61 (ix2 q k) = _ from pay61_val k, show k0_pay62 (ix2 q k) = _ from pay62_val k]
    exact pay63_cases ⟨q.val / 64, half_lt q⟩ k

end Cert.Attn

end
-- ==== Proof.Math.Tile.lean ====
/- One tile of the kernel, at its positions: the masked scores of a query row, their maximum, the sum of the weights
   relative to it, and the weighted values. -/
module

public import proofs.«01_k».proof.Proof.Math.Soft
public import proofs.«01_k».proof.Proof.Math.Consts
public import proofs.«01_k».proof.Proof.Math.Masks
public import Idealize.ShloMosaic.Lib.Pipeline.Value
public import Idealize.ShloMosaic.Lib.ValueIdx

@[expose] public section

noncomputable section

namespace Cert.Attn

open Idealize.ShloMosaic
open Idealize.ShloMosaic.ValueIdx
open Cert.KernelIdeal Cert.KernelIdeal.Gen Cert.KernelIdeal.Talk

/-- A tile's score of query row `r` against key `k`: the scaled product where the row sees the key, `−∞` elsewhere. -/
def score (q : Vec Ideal S128x64 .f32) (kt : Vec Ideal S1x1x64x128 .f32) (r k : Fin 128) : EReal :=
  if r.val / 64 = k.val / 64 then (∑ d : Fin 64, q (ix2 r d) * kt (ix4 (0 : Fin 1) (0 : Fin 1) d k)) * ((1 / 8 : ℝ) : EReal) else ⊥

section QK

theorem qk_l0 (i : S128x128.Idx) (k : dot_S128x64_S64x128_S128x128_1_0_0_1_n_n.contr.Idx) :
    (dot_S128x64_S64x128_S128x128_1_0_0_1_n_n.lhsIdx i k 0).val = (i 0).val := by
  unfold DotDims.lhsIdx
  rw [dif_neg (show ¬(0 : Fin S128x64.rank) ∈ dot_S128x64_S64x128_S128x128_1_0_0_1_n_n.lhsBatch by decide),
    dif_pos (show (0 : Fin S128x64.rank) ∈ dot_S128x64_S64x128_S128x128_1_0_0_1_n_n.lhsNonContracting by decide)]
  rfl
theorem qk_r1 (i : S128x128.Idx) (k : dot_S128x64_S64x128_S128x128_1_0_0_1_n_n.contr.Idx) :
    (dot_S128x64_S64x128_S128x128_1_0_0_1_n_n.rhsIdx i k 1).val = (i 1).val := by
  unfold DotDims.rhsIdx
  rw [dif_neg (show ¬(1 : Fin S64x128.rank) ∈ dot_S128x64_S64x128_S128x128_1_0_0_1_n_n.rhsBatch by decide),
    dif_pos (show (1 : Fin S64x128.rank) ∈ dot_S128x64_S64x128_S128x128_1_0_0_1_n_n.rhsNonContracting by decide)]
  rfl

/-- The product of a query tile and a transposed key tile. -/
theorem qk_apply (q : FVec Ideal S128x64 .f32) (kt : FVec Ideal S64x128 .f32) (r k : Fin 128) :
    matmul dot_S128x64_S64x128_S128x128_1_0_0_1_n_n none q kt (constant S128x128 .f32 0x00000000#32) (ix2 r k)
      = ∑ d : Fin 64, q (ix2 r d) * kt (ix2 d k) := by
  refine (Ideal.matmul_constant_zero_apply _ _ _ _ _).trans ?_
  rw [← Equiv.sum_comp (contrEquiv1 dot_S128x64_S64x128_S128x128_1_0_0_1_n_n 64 rfl rfl).symm]
  refine Finset.sum_congr rfl fun d _ => ?_
  have hd := contrEquiv1_symm_val dot_S128x64_S64x128_S128x128_1_0_0_1_n_n 64 rfl rfl d
  congr 1
  · refine congrArg q (funext fun a => Fin.ext ?_)
    match a with
    | ⟨0, _⟩ => exact qk_l0 _ _
    | ⟨1, _⟩ => exact (dot_S128x64_S64x128_S128x128_1_0_0_1_n_n.lhsIdx_val_of_single rfl _ _).trans hd
  · refine congrArg kt (funext fun a => Fin.ext ?_)
    match a with
    | ⟨0, _⟩ => exact (dot_S128x64_S64x128_S128x128_1_0_0_1_n_n.rhsIdx_val_of_single rfl _ _).trans hd
    | ⟨1, _⟩ => exact qk_r1 _ _

end QK

section WV

theorem wv_l0 (i : S128x64.Idx) (k : dot_S128x128_S64x128_S128x64_1_1_0_0_n_n.contr.Idx) :
    (dot_S128x128_S64x128_S128x64_1_1_0_0_n_n.lhsIdx i k 0).val = (i 0).val := by
  unfold DotDims.lhsIdx
  rw [dif_neg (show ¬(0 : Fin S128x128.rank) ∈ dot_S128x128_S64x128_S128x64_1_1_0_0_n_n.lhsBatch by decide),
    dif_pos (show (0 : Fin S128x128.rank) ∈ dot_S128x128_S64x128_S128x64_1_1_0_0_n_n.lhsNonContracting by decide)]
  rfl
theorem wv_r0 (i : S128x64.Idx) (k : dot_S128x128_S64x128_S128x64_1_1_0_0_n_n.contr.Idx) :
    (dot_S128x128_S64x128_S128x64_1_1_0_0_n_n.rhsIdx i k 0).val = (i 1).val := by
  unfold DotDims.rhsIdx
  rw [dif_neg (show ¬(0 : Fin S64x128.rank) ∈ dot_S128x128_S64x128_S128x64_1_1_0_0_n_n.rhsBatch by decide),
    dif_pos (show (0 : Fin S64x128.rank) ∈ dot_S128x128_S64x128_S128x64_1_1_0_0_n_n.rhsNonContracting by decide)]
  rfl

/-- The product of a weight tile and a transposed value tile. -/
theorem wv_apply (w : FVec Ideal S128x128 .f32) (vt : FVec Ideal S64x128 .f32) (r : Fin 128) (d : Fin 64) :
    matmul dot_S128x128_S64x128_S128x64_1_1_0_0_n_n none w vt (constant S128x64 .f32 0x00000000#32) (ix2 r d)
      = ∑ k : Fin 128, w (ix2 r k) * vt (ix2 d k) := by
  refine (Ideal.matmul_constant_zero_apply _ _ _ _ _).trans ?_
  rw [← Equiv.sum_comp (contrEquiv1 dot_S128x128_S64x128_S128x64_1_1_0_0_n_n 128 rfl rfl).symm]
  refine Finset.sum_congr rfl fun k _ => ?_
  have hk := contrEquiv1_symm_val dot_S128x128_S64x128_S128x64_1_1_0_0_n_n 128 rfl rfl k
  congr 1
  · refine congrArg w (funext fun a => Fin.ext ?_)
    match a with
    | ⟨0, _⟩ => exact wv_l0 _ _
    | ⟨1, _⟩ => exact (dot_S128x128_S64x128_S128x64_1_1_0_0_n_n.lhsIdx_val_of_single rfl _ _).trans hk
  · refine congrArg vt (funext fun a => Fin.ext ?_)
    match a with
    | ⟨0, _⟩ => exact wv_r0 _ _
    | ⟨1, _⟩ => exact (dot_S128x128_S64x128_S128x64_1_1_0_0_n_n.rhsIdx_val_of_single rfl _ _).trans hk

end WV

/-- The kernel's masked constant is `−∞`. -/
theorem mask_bot : Named.named (F := Ideal) (φ := .f32) Cert.KernelIdeal.κ "mask" 0xCE6E6B28#32 = (⊥ : EReal) :=
  IdealRules.named_const.ideal_named_scalar _ _ _ _ rfl

variable (s : Fin 2) (q : Vec Ideal S128x64 .f32) (kt vt : Vec Ideal S1x1x64x128 .f32)

/-- A `1 × 1` block of `64 × 128`, with the unit axes dropped. -/
theorem drop_units (y : Vec Ideal S1x1x64x128 .f32) (d : Fin 64) (k : Fin 128) :
    shapeCast S64x128 y shapeCasts_S1x1x64x128_S64x128 (ix2 d k) = y (ix4 (0 : Fin 1) (0 : Fin 1) d k) :=
  shapeCast_apply y _ _ _ (by
    rewrite [Shape.rowMajor_val_two, Shape.rowMajor_val_four]
    show ((0 * 1 + 0) * 64 + d.val) * 128 + k.val = d.val * 128 + k.val; omega)

/-- The masked scores. -/
theorem pay7_apply (r k : Fin 128) : k0_pay7 (maskOf s) q kt (ix2 r k) = score q kt r k := by
  have hq : shapeCast S128x64 q shapeCasts_S128x64_S128x64 = q :=
    funext fun i => shapeCast_apply q _ i i rfl
  unfold k0_pay7 score
  rw [hq]
  show Scalar.select (maskOf s (ix2 r k)) _ _ = _
  rw [maskOf_apply]
  split
  · rw [select_one, mulf_apply, qk_apply]
    exact congrArg₂ (· * ·) (Finset.sum_congr rfl fun d _ => congrArg (q (ix2 r d) * ·) (drop_units kt d k)) word_eighth
  · rw [select_zero]
    exact mask_bot

/-- The rows' maxima. -/
theorem pay8_apply (r : Fin 128) : k0_pay8 (maskOf s) q kt (ix1 r) = top (score q kt r) := by
  unfold k0_pay8
  refine (Ideal.multiReduction_maximumf_single _ _ _ _ _ _).trans ?_
  rw [show FloatOps.ofBits (F := Ideal) .f32 0xFF800000#32 = (⊥ : EReal) from word_bot]
  refine congrArg (Finset.univ.fold max ⊥) (funext fun k => ?_)
  exact (congrArg (k0_pay7 (maskOf s) q kt) (show _ = ix2 r k from
    funext fun a => Fin.ext (by match a with | ⟨0, _⟩ => rfl | ⟨1, _⟩ => rfl))).trans (pay7_apply s q kt r k)

/-- The weights relative to the row's maximum. -/
theorem pay9_apply (r k : Fin 128) : k0_pay9 (maskOf s) q kt (ix2 r k) = Ideal.exp (score q kt r k - top (score q kt r)) := by
  unfold k0_pay9
  show Ideal.exp _ = _
  rw [subf_apply, pay7_apply]
  refine congrArg (fun z => Ideal.exp (score q kt r k - z)) ?_
  refine (broadcastTo_apply _ _ _ (ix2 r (0 : Fin 1)) (fun a => by match a with | ⟨0, _⟩ => rfl | ⟨1, _⟩ => rfl)).trans ?_
  refine (shapeCast_apply _ _ _ (ix1 r) (by
    rewrite [Shape.rowMajor_val_two, Shape.rowMajor_val_one]; show r.val = r.val * 1 + 0; omega)).trans ?_
  exact pay8_apply s q kt r

/-- The weighted values. -/
theorem pay10_apply (r : Fin 128) (d : Fin 64) : k0_pay10 (maskOf s) q kt vt (ix4 (0 : Fin 1) (0 : Fin 1) r d)
    = part (score q kt r) (fun k => vt (ix4 (0 : Fin 1) (0 : Fin 1) d k)) (top (score q kt r)) := by
  unfold k0_pay10 part
  refine (shapeCast_apply _ _ _ (ix2 r d) (by
    rewrite [Shape.rowMajor_val_two, Shape.rowMajor_val_four]
    show r.val * 64 + d.val = ((0 * 1 + 0) * 128 + r.val) * 64 + d.val; omega)).trans ?_
  rw [truncf_apply, wv_apply]
  exact Finset.sum_congr rfl fun k _ => congrArg₂ (· * ·) (pay9_apply s q kt r k) (drop_units vt d k)

/-- The maxima as stored. -/
theorem pay11_apply (r : Fin 128) : k0_pay11 (maskOf s) q kt (ix5 (0 : Fin 1) (0 : Fin 1) (0 : Fin 1) (0 : Fin 1) r)
    = top (score q kt r) := by
  unfold k0_pay11
  refine (shapeCast_apply _ _ _ (ix1 r) (by
    rewrite [Shape.rowMajor_val_one, Shape.rowMajor_val_five]
    show r.val = (((0 * 1 + 0) * 1 + 0) * 1 + 0) * 128 + r.val; omega)).trans ?_
  exact pay8_apply s q kt r

/-- The sums as stored. -/
theorem pay12_apply (r : Fin 128) : k0_pay12 (maskOf s) q kt (ix5 (0 : Fin 1) (0 : Fin 1) (0 : Fin 1) (0 : Fin 1) r)
    = ∑ k, Ideal.exp (score q kt r k - top (score q kt r)) := by
  unfold k0_pay12
  refine (shapeCast_apply _ _ _ (ix1 r) (by
    rewrite [Shape.rowMajor_val_one, Shape.rowMajor_val_five]
    show r.val = (((0 * 1 + 0) * 1 + 0) * 1 + 0) * 128 + r.val; omega)).trans ?_
  refine (Ideal.multiReduction_add_single _ _ _ _ _ _).trans (Finset.sum_congr rfl fun k _ => ?_)
  exact (congrArg (k0_pay9 (maskOf s) q kt) (show _ = ix2 r k from
    funext fun a => Fin.ext (by match a with | ⟨0, _⟩ => rfl | ⟨1, _⟩ => rfl))).trans (pay9_apply s q kt r k)

end Cert.Attn

end
-- ==== Proof.Math.Merge.lean ====
/- The merged rows, position by position: the two slots' maxima, sums and weighted values of the row's batch and head. -/
module

public import proofs.«01_k».proof.Proof.Math.Tile
public import proofs.«01_k».proof.Proof.KI.Start

@[expose] public section

noncomputable section

namespace Cert.Attn

open Idealize.ShloMosaic
open Idealize.ShloMosaic.ValueIdx
open Cert.KernelIdeal Cert.KernelIdeal.Gen Cert.KernelIdeal.Talk

/-! ## One head's coefficients along its 64 columns -/

theorem slices_head (h : Fin 4) : S2x4x128.Slices (![0, h.val, 0] : Fin 3 → ℕ) S2x1x128 := by
  revert h; decide

/-- Head `h`'s coefficients, repeated along the head's columns. -/
def headCols (y : FVec Ideal S2x4x128 .f32) (h : Fin 4) : FVec Ideal S2x128x64 .f32 :=
  broadcastTo S2x128x64 (shapeCast S2x128x1 (shapeCast S2x128x1 (shapeCast S2x128
    (extractStridedSlice S2x1x128 ![0, h.val, 0] y (slices_head h)) shapeCasts_S2x1x128_S2x128) shapeCasts_S2x128_S2x128x1)
      shapeCasts_S2x128x1_S2x128x1) broadcasts_S2x128x1_S2x128x64

theorem headCols_apply (y : FVec Ideal S2x4x128 .f32) (h : Fin 4) (b : Fin 2) (r : Fin 128) (d : Fin 64) :
    headCols y h (ix3 b r d) = y (ix3 b h r) := by
  unfold headCols
  refine (broadcastTo_apply _ _ _ (ix3 b r (0 : Fin 1))
    (fun a => by match a with | ⟨0, _⟩ => rfl | ⟨1, _⟩ => rfl | ⟨2, _⟩ => rfl)).trans ?_
  refine (shapeCast_apply _ _ _ (ix3 b r (0 : Fin 1)) rfl).trans ?_
  refine (shapeCast_apply _ _ _ (ix2 b r) (by
    rewrite [Shape.rowMajor_val_two, Shape.rowMajor_val_three]
    show b.val * 128 + r.val = (b.val * 128 + r.val) * 1 + 0; omega)).trans ?_
  refine (shapeCast_apply _ _ _ (ix3 b (0 : Fin 1) r) (by
    rewrite [Shape.rowMajor_val_two, Shape.rowMajor_val_three]
    show (b.val * 1 + 0) * 128 + r.val = b.val * 128 + r.val; omega)).trans ?_
  exact extractStridedSlice_apply _ _ _ _ (ix3 b h r) (fun a => by
    match a with
    | ⟨0, _⟩ => exact (Nat.zero_add _).symm
    | ⟨1, _⟩ => rfl
    | ⟨2, _⟩ => exact (Nat.zero_add _).symm)

/-- The four heads side by side. -/
theorem heads_apply (y : FVec Ideal S2x4x128 .f32) (b : Fin 2) (r : Fin 128) (e : Fin 256) :
    concatenate S2x128x256 2 [⟨S2x128x64, headCols y 0⟩, ⟨S2x128x64, headCols y 1⟩, ⟨S2x128x64, headCols y 2⟩, ⟨S2x128x64, headCols y 3⟩]
        concatenates_S2x128x64_S2x128x64_S2x128x64_S2x128x64_S2x128x256_d2 (ix3 b r e)
      = y (ix3 b (⟨e.val / 64, by omega⟩ : Fin 4) r) := by
  refine (concatenate_ofFn_apply (t := S2x128x256) (s₁ := S2x128x64) 2 (fun h : Fin 4 => headCols y h)
    concatenates_S2x128x64_S2x128x64_S2x128x64_S2x128x64_S2x128x256_d2 rfl 64 rfl (ix3 b r e) (⟨e.val / 64, by omega⟩ : Fin 4) rfl
    (ix3 b r (⟨e.val % 64, Nat.mod_lt _ (by decide)⟩ : Fin 64)) rfl (fun a ha => ?_)).trans (headCols_apply y _ b r _)
  match a with
  | ⟨0, _⟩ => rfl
  | ⟨1, _⟩ => rfl
  | ⟨2, _⟩ => exact absurd rfl ha

/-! ## The scratch arrays read back -/

variable (x : Inp Ideal)

theorem drop_ms (y : Vec Ideal S1x2x4x1x128 .f32) (b : Fin 2) (h : Fin 4) (r : Fin 128) :
    shapeCast S2x4x128 y shapeCasts_S1x2x4x1x128_S2x4x128 (ix3 b h r) = y (ix5 (0 : Fin 1) b h (0 : Fin 1) r) :=
  shapeCast_apply y _ _ _ (by
    rewrite [Shape.rowMajor_val_three, Shape.rowMajor_val_five]
    show (((0 * 2 + b.val) * 4 + h.val) * 1 + 0) * 128 + r.val = (b.val * 4 + h.val) * 128 + r.val; omega)

theorem drop_o (y : Vec Ideal S1x2x128x256 .bf16) (b : Fin 2) (r : Fin 128) (e : Fin 256) :
    shapeCast S2x128x256 y shapeCasts_S1x2x128x256_S2x128x256 (ix3 b r e) = y (ix4 (0 : Fin 1) b r e) :=
  shapeCast_apply y _ _ _ (by
    rewrite [Shape.rowMajor_val_three, Shape.rowMajor_val_four]
    show ((0 * 2 + b.val) * 128 + r.val) * 256 + e.val = (b.val * 128 + r.val) * 256 + e.val; omega)

theorem mRow_apply (s t : Fin 2) (hb) (b : Fin 2) (h : Fin 4) (r : Fin 128) :
    mRow x s t hb (ix5 (0 : Fin 1) b h (0 : Fin 1) r) = msTile x s b h t (ix5 (0 : Fin 1) (0 : Fin 1) (0 : Fin 1) (0 : Fin 1) r) := by
  unfold mRow
  have e : (Rect.unit (s := S2x2x4x2x128) ![s.val, 0, 0, t.val, 0] S1x2x4x1x128.size hb).emb (ix5 (0 : Fin 1) b h (0 : Fin 1) r)
      = ix5 s b h t r := funext fun a => Fin.ext (by
    rw [Rect.emb_apply]
    match a with
    | ⟨0, _⟩ => show s.val + 1 * 0 = s.val; omega
    | ⟨1, _⟩ => show 0 + 1 * b.val = b.val; omega
    | ⟨2, _⟩ => show 0 + 1 * h.val = h.val; omega
    | ⟨3, _⟩ => show t.val + 1 * 0 = t.val; omega
    | ⟨4, _⟩ => show 0 + 1 * r.val = r.val; omega)
  rw [e]
  rfl

/-- Slot `s`'s scores of row `r` in batch `b`, head `h`. -/
abbrev slotScore (s b : Fin 2) (h : Fin 4) (r : Fin 128) : Fin 128 → EReal :=
  score (qTile (x.q (own s)) b h) (kvTile (x.kt (own s)) b h) r
/-- Slot `s`'s values in batch `b`, head `h`, column `d`. -/
abbrev slotVal (s b : Fin 2) (h : Fin 4) (d : Fin 64) : Fin 128 → EReal :=
  fun k => kvTile (x.vt (own s)) b h (ix4 (0 : Fin 1) (0 : Fin 1) d k)

theorem mRow_max (s : Fin 2) (hb) (b : Fin 2) (h : Fin 4) (r : Fin 128) :
    mRow x s 0 hb (ix5 (0 : Fin 1) b h (0 : Fin 1) r) = top (slotScore x s b h r) := by
  rw [mRow_apply, msTile, if_pos rfl]
  exact pay11_apply s _ _ r
theorem mRow_sum (s : Fin 2) (hb) (b : Fin 2) (h : Fin 4) (r : Fin 128) :
    mRow x s 1 hb (ix5 (0 : Fin 1) b h (0 : Fin 1) r) = ∑ k, Ideal.exp (slotScore x s b h r k - top (slotScore x s b h r)) := by
  rw [mRow_apply, msTile, if_neg (by decide)]
  exact pay12_apply s _ _ r

theorem oRow_apply (s : Fin 2) (b : Fin 2) (r : Fin 128) (e : Fin 256) :
    oRow x s (ix4 (0 : Fin 1) b r e)
      = part (slotScore x s b ⟨e.val / 64, by omega⟩ r) (slotVal x s b ⟨e.val / 64, by omega⟩ ⟨e.val % 64, Nat.mod_lt _ (by decide)⟩)
          (top (slotScore x s b ⟨e.val / 64, by omega⟩ r)) := by
  unfold oRow
  have he : (oRect s).emb (ix4 (0 : Fin 1) b r e) = ix4 s b r e := funext fun a => Fin.ext (by
    rw [Rect.emb_apply]
    match a with
    | ⟨0, _⟩ => show s.val + 1 * 0 = s.val; omega
    | ⟨1, _⟩ => show 0 + 1 * b.val = b.val; omega
    | ⟨2, _⟩ => show 0 + 1 * r.val = r.val; omega
    | ⟨3, _⟩ => show 0 + 1 * e.val = e.val; omega)
  rw [he]
  exact pay10_apply s _ _ _ r _

/-! ## The merge -/

/-- The result's row `r` of batch `b`, column `e`. -/
theorem res_apply (b : Fin 2) (r : Fin 128) (e : Fin 256) :
    res x (ix2 (⟨b.val * 128 + r.val, by omega⟩ : Fin 256) e)
      = merged (top (slotScore x 0 b ⟨e.val / 64, by omega⟩ r)) (top (slotScore x 1 b ⟨e.val / 64, by omega⟩ r))
          (∑ k, Ideal.exp (slotScore x 0 b ⟨e.val / 64, by omega⟩ r k - top (slotScore x 0 b ⟨e.val / 64, by omega⟩ r)))
          (∑ k, Ideal.exp (slotScore x 1 b ⟨e.val / 64, by omega⟩ r k - top (slotScore x 1 b ⟨e.val / 64, by omega⟩ r)))
          (part (slotScore x 0 b ⟨e.val / 64, by omega⟩ r) (slotVal x 0 b ⟨e.val / 64, by omega⟩ ⟨e.val % 64, Nat.mod_lt _ (by decide)⟩)
            (top (slotScore x 0 b ⟨e.val / 64, by omega⟩ r)))
          (part (slotScore x 1 b ⟨e.val / 64, by omega⟩ r) (slotVal x 1 b ⟨e.val / 64, by omega⟩ ⟨e.val % 64, Nat.mod_lt _ (by decide)⟩)
            (top (slotScore x 1 b ⟨e.val / 64, by omega⟩ r))) := by
  have m0 := fun h => (drop_ms (mRow x 0 0 inb_S2x2x4x2x128_S1x2x4x1x128_0_0_0_0_0) b h r).trans (mRow_max x 0 _ b h r)
  have m1 := fun h => (drop_ms (mRow x 1 0 inb_S2x2x4x2x128_S1x2x4x1x128_1_0_0_0_0) b h r).trans (mRow_max x 1 _ b h r)
  have s0 := fun h => (drop_ms (mRow x 0 1 inb_S2x2x4x2x128_S1x2x4x1x128_0_0_0_1_0) b h r).trans (mRow_sum x 0 _ b h r)
  have s1 := fun h => (drop_ms (mRow x 1 1 inb_S2x2x4x2x128_S1x2x4x1x128_1_0_0_1_0) b h r).trans (mRow_sum x 1 _ b h r)
  have o0 := (drop_o (oRow x 0) b r e).trans (oRow_apply x 0 b r e)
  have o1 := (drop_o (oRow x 1) b r e).trans (oRow_apply x 1 b r e)
  unfold res
  unfold k0_pay1
  refine (shapeCast_apply _ _ _ (ix3 b r e) (by
    rewrite [Shape.rowMajor_val_two, Shape.rowMajor_val_three]; rfl)).trans ?_
  generalize mRow x 0 0 inb_S2x2x4x2x128_S1x2x4x1x128_0_0_0_0_0 = y0 at m0 ⊢
  generalize mRow x 1 0 inb_S2x2x4x2x128_S1x2x4x1x128_1_0_0_0_0 = y1 at m1 ⊢
  generalize mRow x 0 1 inb_S2x2x4x2x128_S1x2x4x1x128_0_0_0_1_0 = z0 at s0 ⊢
  generalize mRow x 1 1 inb_S2x2x4x2x128_S1x2x4x1x128_1_0_0_1_0 = z1 at s1 ⊢
  generalize oRow x 0 = p0 at o0 ⊢
  generalize oRow x 1 = p1 at o1 ⊢
  unfold merged
  rw [addf_apply]
  refine congrArg₂ (· + ·) ?_ ?_
  · unfold k0_pay123
    refine congrArg₂ (· * ·) o0 ?_
    refine (heads_apply (divf (k0_pay119 (k0_pay116 y0) (k0_pay117 y1)) (k0_pay121 (k0_pay116 y0) (k0_pay117 y1) z0 z1)) b r e).trans ?_
    rw [← s0, ← s1, ← m0, ← m1]
    rfl
  · rw [mulf_apply]
    refine congrArg₂ (· * ·) o1 ?_
    refine (heads_apply (k0_pay122 (k0_pay116 y0) (k0_pay117 y1) z0 z1) b r e).trans ?_
    rw [← s0, ← s1, ← m0, ← m1]
    rfl

end Cert.Attn

end
-- ==== Proof.Math.Ends.lean ====
/- The two matrix products around the kernel's call, position by position: the projected queries before it and the output
   matrix after it. -/
module

public import proofs.«01_k».proof.Proof.KI.Ends
public import Idealize.ShloMosaic.Lib.Pipeline.Value
public import Idealize.ShloMosaic.Lib.ValueIdx
public import Idealize.ShloMosaic.PureOps.Ideal.Laws

@[expose] public section

noncomputable section

namespace Cert.Attn

open Idealize.ShloMosaic
open Idealize.ShloMosaic.ValueIdx
open Cert.KernelIdeal Cert.KernelIdeal.Gen Cert.KernelIdeal.Talk

section In

theorem in_l0 (i : S256x256.Idx) (k : dot_S256x512_S512x256_S256x256_1_0_0_1_n_n.contr.Idx) :
    (dot_S256x512_S512x256_S256x256_1_0_0_1_n_n.lhsIdx i k 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl
theorem in_r1 (i : S256x256.Idx) (k : dot_S256x512_S512x256_S256x256_1_0_0_1_n_n.contr.Idx) :
    (dot_S256x512_S512x256_S256x256_1_0_0_1_n_n.rhsIdx i k 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl

/-- Rows through the query matrix. -/
theorem in_apply (y : FVec Ideal S256x512 .f32) (w : FVec Ideal S512x256 .f32) (r e : Fin 256) :
    Host.dotGeneral dot_S256x512_S512x256_S256x256_1_0_0_1_n_n none y w (ix2 r e) = ∑ j : Fin 512, y (ix2 r j) * w (ix2 j e) := by
  simp only [Host.dotGeneral]
  refine (Ideal.dotGeneral_apply _ _ _ _ _ _).trans ?_
  rw [← Equiv.sum_comp (contrEquiv1 dot_S256x512_S512x256_S256x256_1_0_0_1_n_n 512 rfl rfl).symm]
  refine Finset.sum_congr rfl fun j _ => ?_
  have hj := contrEquiv1_symm_val dot_S256x512_S512x256_S256x256_1_0_0_1_n_n 512 rfl rfl j
  refine congrArg₂ (· * ·) (congrArg y (funext fun a => Fin.ext ?_)) (congrArg w (funext fun a => Fin.ext ?_))
  · match a with
    | ⟨0, _⟩ => exact in_l0 _ _
    | ⟨1, _⟩ => exact (dot_S256x512_S512x256_S256x256_1_0_0_1_n_n.lhsIdx_val_of_single rfl _ _).trans hj
  · match a with
    | ⟨0, _⟩ => exact (dot_S256x512_S512x256_S256x256_1_0_0_1_n_n.rhsIdx_val_of_single rfl _ _).trans hj
    | ⟨1, _⟩ => exact in_r1 _ _

end In

section Out

theorem out_l0 (i : S256x512.Idx) (k : dot_S256x256_S256x512_S256x512_1_0_0_1_n_n.contr.Idx) :
    (dot_S256x256_S256x512_S256x512_1_0_0_1_n_n.lhsIdx i k 0).val = (i 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl
theorem out_r1 (i : S256x512.Idx) (k : dot_S256x256_S256x512_S256x512_1_0_0_1_n_n.contr.Idx) :
    (dot_S256x256_S256x512_S256x512_1_0_0_1_n_n.rhsIdx i k 1).val = (i 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl

/-- Rows through the output matrix. -/
theorem wo_apply (y : FVec Ideal S256x256 .f32) (w : FVec Ideal S256x512 .f32) (r : Fin 256) (j : Fin 512) :
    Host.dotGeneral dot_S256x256_S256x512_S256x512_1_0_0_1_n_n none y w (ix2 r j) = ∑ e : Fin 256, y (ix2 r e) * w (ix2 e j) := by
  simp only [Host.dotGeneral]
  refine (Ideal.dotGeneral_apply _ _ _ _ _ _).trans ?_
  rw [← Equiv.sum_comp (contrEquiv1 dot_S256x256_S256x512_S256x512_1_0_0_1_n_n 256 rfl rfl).symm]
  refine Finset.sum_congr rfl fun e _ => ?_
  have he := contrEquiv1_symm_val dot_S256x256_S256x512_S256x512_1_0_0_1_n_n 256 rfl rfl e
  refine congrArg₂ (· * ·) (congrArg y (funext fun a => Fin.ext ?_)) (congrArg w (funext fun a => Fin.ext ?_))
  · match a with
    | ⟨0, _⟩ => exact out_l0 _ _
    | ⟨1, _⟩ => exact (dot_S256x256_S256x512_S256x512_1_0_0_1_n_n.lhsIdx_val_of_single rfl _ _).trans he
  · match a with
    | ⟨0, _⟩ => exact (dot_S256x256_S256x512_S256x512_1_0_0_1_n_n.rhsIdx_val_of_single rfl _ _).trans he
    | ⟨1, _⟩ => exact out_r1 _ _

end Out

/-- A row of the flattened array. -/
abbrev row (b : Fin 2) (r : Fin 128) : Fin 256 := ⟨b.val * 128 + r.val, by omega⟩

/-- The kernel's result at an index, from the merged rows. -/
theorem out_apply (x : Inp Ideal) (wo : S256x512.Idx → EReal) (b : Fin 2) (r : Fin 128) (j : Fin 512) :
    out x wo (ix3 b r j) = ∑ e : Fin 256, res x (ix2 (row b r) e) * wo (ix2 e j) := by
  unfold out
  refine (shapeCast_apply _ _ _ (ix2 (row b r) j) (by
    rewrite [Shape.rowMajor_val_two, Shape.rowMajor_val_three]; rfl)).trans ?_
  exact wo_apply (res x) wo (row b r) j

variable (m : (ℓ : Loc nD τ sig) → Buf (Elt Ideal) ℓ)

/-- The projected queries at an index, of the arrays `a0` and `a1` the device was launched with. -/
theorem inp_q_apply (c : Dev nD) (a0 : S2x128x512.Idx → EReal) (a1 : S512x256.Idx → EReal) (h0 : at0 m c main_arg0 = a0)
    (h1 : at0 m c main_arg1 = a1) (b : Fin 2) (r : Fin 128) (e : Fin 256) :
    (inp m).q c (ix2 (row b r) e) = ∑ j : Fin 512, a0 (ix3 b r j) * a1 (ix2 j e) := by
  rw [inp_q, h0, h1]
  refine (in_apply _ _ (row b r) e).trans (Finset.sum_congr rfl fun j _ => congrArg (· * _) ?_)
  exact shapeCast_apply _ _ _ (ix3 b r j) (by rewrite [Shape.rowMajor_val_two, Shape.rowMajor_val_three]; rfl)

/-- The transposed keys at an index. -/
theorem inp_kt_apply (c : Dev nD) (b : Fin 2) (h : Fin 4) (d : Fin 64) (k : Fin 128) :
    (inp m).kt c (ix4 b h d k) = at0 m c main_arg2 (ix4 b k h d) := by
  rw [inp_kt]
  exact transpose_apply _ _ _ _ (ix4 b k h d) (fun a => by
    match a with | ⟨0, _⟩ => rfl | ⟨1, _⟩ => rfl | ⟨2, _⟩ => rfl | ⟨3, _⟩ => rfl)

/-- The transposed values at an index. -/
theorem inp_vt_apply (c : Dev nD) (b : Fin 2) (h : Fin 4) (d : Fin 64) (k : Fin 128) :
    (inp m).vt c (ix4 b h d k) = at0 m c main_arg3 (ix4 b k h d) := by
  rw [inp_vt]
  exact transpose_apply _ _ _ _ (ix4 b k h d) (fun a => by
    match a with | ⟨0, _⟩ => rfl | ⟨1, _⟩ => rfl | ⟨2, _⟩ => rfl | ⟨3, _⟩ => rfl)

end Cert.Attn

end
-- ==== Proof.Math.Value.lean ====
/- The kernel's result is the reference's: each slot's tiles are one block of keys of the reference's row, no row sees a key
   of the other two blocks, and the merge of the two slots is the whole row's weighted average. -/
module

public import proofs.«01_k».proof.Proof.Math.Finite
public import proofs.«01_k».proof.Proof.Math.Merge
public import proofs.«01_k».proof.Proof.Math.Ends

@[expose] public section

noncomputable section

namespace Cert.Attn

open Idealize.ShloMosaic
open Idealize.ShloMosaic.ValueIdx
open Cert.KernelIdeal Cert.KernelIdeal.Gen Cert.KernelIdeal.Talk

abbrev Whole : Shape := ⟨4, ![2, 512, 4, 64]⟩
abbrev Part : Shape := ⟨4, ![2, 128, 4, 64]⟩

/-- A device's block of the keys (or the values) at an index. -/
theorem block_at (v : Whole.Idx → EReal) (c : Fin 4) (ht) (b : Fin 2) (k : Fin 128) (h : Fin 4) (d : Fin 64) :
    Layout.block Part Whole 1 4 c v ht (ix4 b k h d) = v (ix4 b (blk c k) h d) := by
  rw [Layout.block_apply]
  refine congrArg v (funext fun a => Fin.ext ?_)
  match a with
  | ⟨0, _⟩ => rfl
  | ⟨1, _⟩ => rfl
  | ⟨2, _⟩ => rfl
  | ⟨3, _⟩ => rfl

/-- An array all of whose blocks are real is real. -/
theorem real_of_blocks (v : Whole.Idx → EReal) (ht) (h : ∀ (c : Fin 4) (i : Part.Idx), Real' (Layout.block Part Whole 1 4 c v ht i))
    (i : Whole.Idx) : Real' (v i) := by
  have hk : (i 1).val < 512 := (i 1).isLt
  have e := h (⟨(i 1).val / 128, by omega⟩ : Fin 4)
    (ix4 (i 0) (⟨(i 1).val % 128, Nat.mod_lt _ (by decide)⟩ : Fin 128) (i 2) (i 3))
  have ei : ix4 (i 0) (blk (⟨(i 1).val / 128, by omega⟩ : Fin 4) (⟨(i 1).val % 128, Nat.mod_lt _ (by decide)⟩ : Fin 128)) (i 2) (i 3)
      = i := by
    refine funext fun a => ?_
    match a with
    | ⟨0, _⟩ => rfl
    | ⟨1, _⟩ => exact Fin.ext (by show (i 1).val / 128 * 128 + (i 1).val % 128 = (i 1).val; omega)
    | ⟨2, _⟩ => rfl
    | ⟨3, _⟩ => rfl
  exact ei ▸ (congrArg Real' (block_at v _ ht _ _ _ _)).mp e

/-- A query tile at an index. -/
theorem qTile_apply (q : S256x256.Idx → EReal) (b : Fin 2) (h : Fin 4) (r : Fin 128) (d : Fin 64) :
    qTile (F := Ideal) q b h (ix2 r d) = q (ix2 (row b r) (⟨h.val * 64 + d.val, by omega⟩ : Fin 256)) :=
  congrArg q (funext fun a => Fin.ext (by
    rw [Rect.emb_apply]
    match a with
    | ⟨0, _⟩ => show b.val * 128 + 1 * r.val = b.val * 128 + r.val; omega
    | ⟨1, _⟩ => show h.val * 64 + 1 * d.val = h.val * 64 + d.val; omega))

/-- A key (or value) tile at an index. -/
theorem kvTile_apply (kv : S2x4x64x128.Idx → EReal) (b : Fin 2) (h : Fin 4) (d : Fin 64) (k : Fin 128) :
    kvTile (F := Ideal) kv b h (ix4 (0 : Fin 1) (0 : Fin 1) d k) = kv (ix4 b h d k) :=
  congrArg kv (funext fun a => Fin.ext (by
    rw [Rect.emb_apply]
    match a with
    | ⟨0, _⟩ => show b.val + 1 * 0 = b.val; omega
    | ⟨1, _⟩ => show h.val + 1 * 0 = h.val; omega
    | ⟨2, _⟩ => show 0 + 1 * d.val = d.val; omega
    | ⟨3, _⟩ => show 0 + 1 * k.val = k.val; omega))

/-- Which keys of its own block a slot's row sees. -/
theorem sees_own (s : Fin 2) (r k : Fin 128) : sees r (blk (own s) k) ↔ r.val / 64 = k.val / 64 := by
  match s with
  | ⟨0, _⟩ => exact sees_blk0 r k
  | ⟨1, _⟩ => exact sees_blk2 r k

section Launch

variable {m : (ℓ : Loc nD τ sig) → Buf (Elt Ideal) ℓ}
  {x0 : S2x128x512.Idx → EReal} {x1 : S512x256.Idx → EReal} {x2 x3 : Whole.Idx → EReal} {ht : Layout.Tiles Part Whole 1 4}

/-- A slot's scores are the reference's scores on the slot's block of keys. -/
theorem slotScore_eq (h0 : ∀ c, at0 m c main_arg0 = x0) (h1 : ∀ c, at0 m c main_arg1 = x1)
    (h2 : ∀ c : Dev nD, at0 m c main_arg2 = Layout.block Part Whole 1 4 c x2 ht) (s b : Fin 2) (h : Fin 4) (r : Fin 128) :
    slotScore (inp m) s b h r = fun k => rscore x0 x1 x2 b h r (blk (own s) k) := by
  funext k
  show score _ _ r k = _
  unfold score rscore
  simp only [sees_own]
  refine if_congr Iff.rfl (congrArg (· * _) (Finset.sum_congr rfl fun d _ => congrArg₂ (· * ·) ?_ ?_)) rfl
  · rw [qTile_apply]
    exact inp_q_apply m (own s) x0 x1 (h0 _) (h1 _) b r _
  · rw [kvTile_apply, inp_kt_apply, h2]
    exact block_at x2 (own s) ht b k h d

/-- A slot's values likewise. -/
theorem slotVal_eq (h3 : ∀ c : Dev nD, at0 m c main_arg3 = Layout.block Part Whole 1 4 c x3 ht) (s b : Fin 2) (h : Fin 4) (d : Fin 64) :
    slotVal (inp m) s b h d = fun k => x3 (ix4 b (blk (own s) k) h d) := by
  funext k
  show kvTile _ b h (ix4 (0 : Fin 1) (0 : Fin 1) d k) = _
  rw [kvTile_apply, inp_vt_apply, h3]
  exact block_at x3 (own s) ht b k h d

/-- The merged rows are the reference's attention. -/
theorem res_eq (h0 : ∀ c, at0 m c main_arg0 = x0) (h1 : ∀ c, at0 m c main_arg1 = x1)
    (h2 : ∀ c : Dev nD, at0 m c main_arg2 = Layout.block Part Whole 1 4 c x2 ht)
    (h3 : ∀ c : Dev nD, at0 m c main_arg3 = Layout.block Part Whole 1 4 c x3 ht)
    (r0 : ∀ i, Real' (x0 i)) (r1 : ∀ i, Real' (x1 i)) (r2 : ∀ i, Real' (x2 i)) (b : Fin 2) (r : Fin 128) (e : Fin 256) :
    res (inp m) (ix2 (row b r) e)
      = attn x0 x1 x2 x3 b (⟨e.val / 64, by omega⟩ : Fin 4) r (⟨e.val % 64, Nat.mod_lt _ (by decide)⟩ : Fin 64) := by
  have k0 := fun h => (slotScore_eq h0 h1 h2 0 b h r : _ = fun k => rscore x0 x1 x2 b h r (blk 0 k))
  have k1 := fun h => (slotScore_eq h0 h1 h2 1 b h r : _ = fun k => rscore x0 x1 x2 b h r (blk 2 k))
  have v0 := fun h d => (slotVal_eq h3 0 b h d : _ = fun k => x3 (ix4 b (blk 0 k) h d))
  have v1 := fun h d => (slotVal_eq h3 1 b h d : _ = fun k => x3 (ix4 b (blk 2 k) h d))
  refine (res_apply (inp m) b r e).trans ?_
  rw [k0, k1, v0, v1]
  exact merge_eq (s := rscore x0 x1 x2 b _ r) (v := fun k => x3 (ix4 b k _ _)) (fun k => rscore_ne_top r0 r1 r2 b _ r k)
    ⟨r, rscore_ne_bot r0 r1 r2 b _ r _ ((sees_blk0 r r).2 rfl)⟩ ⟨r, rscore_ne_bot r0 r1 r2 b _ r _ ((sees_blk2 r r).2 rfl)⟩
    (fun k => if_neg (unseen_blk1 r k)) (fun k => if_neg (unseen_blk3 r k))

/-- The kernel's result is the reference's. -/
theorem out_eq (x4 : S256x512.Idx → EReal) (h0 : ∀ c, at0 m c main_arg0 = x0) (h1 : ∀ c, at0 m c main_arg1 = x1)
    (h2 : ∀ c : Dev nD, at0 m c main_arg2 = Layout.block Part Whole 1 4 c x2 ht)
    (h3 : ∀ c : Dev nD, at0 m c main_arg3 = Layout.block Part Whole 1 4 c x3 ht)
    (r0 : ∀ i, Real' (x0 i)) (r1 : ∀ i, Real' (x1 i)) (r2 : ∀ i, Real' (x2 i)) :
    out (inp m) x4 = Cert.ReferenceIdeal.Read.val_main_v39 (F := Ideal) x0 x1 x2 x3 x4 := by
  funext i
  rw [eq_ix3 i]
  refine (out_apply (inp m) x4 _ _ _).trans (Eq.trans ?_ (v39_val x0 x1 x2 x3 x4 _ _ _).symm)
  exact Finset.sum_congr rfl fun e _ => congrArg (· * _) (res_eq h0 h1 h2 h3 r0 r1 r2 _ _ e)

end Launch

end Cert.Attn

end
-- ==== Proof.lean ====
/- The certificate's claim from its parts: each kernel program's run (`Talk.run_out`, its own and its ideal's), the
   reference's run, and the value equation. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.K.Ends
public import proofs.«01_k».proof.Proof.KI.Ends
public import proofs.«01_k».proof.Proof.Math.Value
public import Idealize.ShloMosaic.Lib.Claim
public import Idealize.ShloMosaic.Adequacy
public import Idealize.ShloMosaic.Init

@[expose] public section

noncomputable section

namespace Cert.Proof

open Idealize.ShloMosaic Idealize.ShloMosaic.StableHlo Idealize.SL.Sem

/-- The kernel runs on the four devices, keeps its arguments and leaves every counter at zero. -/
theorem quiet_kernel : Cert.quiescent_Kernel (hKernel := Cert.Kernel.Gen.facts) := by
  intro m g _
  exact θ_run_mono (Cert.Kernel.Talk.run_out m g) (fun r h => ⟨fun c => ⟨(h.1 c).2 _ (by decide), (h.1 c).2 _ (by decide), (h.1 c).2 _ (by decide),
    (h.1 c).2 _ (by decide), (h.1 c).2 _ (by decide)⟩, h.2⟩)

/-- So does its ideal. -/
theorem quiet_kernelIdeal : Cert.quiescent_KernelIdeal (hKernelIdeal := Cert.KernelIdeal.Gen.facts) := by
  intro m g _
  exact θ_run_mono (Cert.KernelIdeal.Talk.run_out m g) (fun r h => ⟨fun c => ⟨(h.1 c).2 _ (by decide), (h.1 c).2 _ (by decide), (h.1 c).2 _ (by decide),
    (h.1 c).2 _ (by decide), (h.1 c).2 _ (by decide)⟩, h.2⟩)

/-- The reference has host operations only, and no semaphore. -/
theorem quiet_reference : Cert.quiescent_ReferenceIdeal (hReferenceIdeal := Cert.ReferenceIdeal.Gen.facts) := by
  intro m g _
  exact θ_run_mono (Cert.ReferenceIdeal.Value.run m g) (fun r h => ⟨fun c => (h c).2, sem_eq_zero_of_no_sems rfl r.2⟩)

/-- The mask's literal is the one constant that the ideal kernel reads as `−∞`. -/
theorem mask_named : Cert.preserves_Kernel_KernelIdeal :=
  IdealRules.named_const.statement Cert.KernelIdeal.κ "mask" .f32 0xCE6E6B28#32 ⊥ rfl

/-- The side conditions of the precondition, over the kernel's blocks and over the reference's whole arrays. -/
theorem pre_facts : Cert.Pre_scores_finite_KernelIdeal.Facts :=
  ⟨by decide, by decide, by decide, by decide, by decide, by decide, by decide⟩
theorem pre_facts_reference : Cert.Pre_scores_finite_ReferenceIdeal.Facts :=
  ⟨by decide, by decide, by decide, by decide, by decide, by decide, by decide⟩

/-- Where the scores are finite, every device's result is the reference's. -/
theorem same_value : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := pre_facts) := by
  intro m g m' g' hp ha
  haveI := pre_facts
  have real := fun c => Cert.Attn.real_of_pre (hp c)
  have e : ∀ c, Cert.KernelIdeal.Talk.out (Cert.KernelIdeal.Talk.inp m) (Cert.KernelIdeal.Talk.at0 m c Cert.KernelIdeal.main_arg4)
      = Cert.ReferenceIdeal.Value.res_main_v39 m' 0 := fun c =>
    (congrArg _ (ha c).2.2.2.2).trans ((Cert.Attn.out_eq _ (fun d => (ha d).1) (fun d => (ha d).2.1) (fun d => (ha d).2.2.1)
      (fun d => (ha d).2.2.2.1) (fun i => (congrFun (ha 0).1 i) ▸ (real 0).1 i) (fun i => (congrFun (ha 0).2.1 i) ▸ (real 0).2.1 i)
      (Cert.Attn.real_of_blocks _ (by decide) fun d i => (congrFun (ha d).2.2.1 i) ▸ (real d).2.2 i)).trans
        (Cert.ReferenceIdeal.Read.val_main_v39_eq m' 0).symm)
  refine ⟨Cert.ReferenceIdeal.Value.res_main_v39 m' 0, ?_, ?_⟩
  · exact θ_run_mono (Cert.KernelIdeal.Talk.run_out m g) (fun r h c => ⟨(h.1 c).1.trans (e c), (h.1 c).2 _ (by decide),
      (h.1 c).2 _ (by decide), (h.1 c).2 _ (by decide), (h.1 c).2 _ (by decide), (h.1 c).2 _ (by decide)⟩)
  · exact θ_run_mono (Cert.ReferenceIdeal.Value.run m' g') (fun r h => h 0)

theorem claim : Cert.Claim := ⟨Cert.Kernel.Gen.facts, Cert.KernelIdeal.Gen.facts, Cert.ReferenceIdeal.Gen.facts, pre_facts,
  pre_facts_reference, quiet_kernel, quiet_kernelIdeal, fun m g _ => quiet_kernelIdeal m g trivial, quiet_reference,
  fun m g _ => quiet_reference m g trivial, mask_named, same_value⟩

end Cert.Proof

end
